-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x64 : Shape := ⟨2, ![2048, 64]⟩
abbrev S4096x1 : Shape := ⟨2, ![4096, 1]⟩
abbrev S8x128 : Shape := ⟨2, ![8, 128]⟩
abbrev S1024x2048 : Shape := ⟨2, ![1024, 2048]⟩
abbrev S1024x1 : Shape := ⟨2, ![1024, 1]⟩
abbrev S1024x64 : Shape := ⟨2, ![1024, 64]⟩
abbrev S1024 : Shape := ⟨1, ![1024]⟩
abbrev S64 : Shape := ⟨1, ![64]⟩
abbrev S1x64 : Shape := ⟨2, ![1, 64]⟩
abbrev S1x128 : Shape := ⟨2, ![1, 128]⟩
abbrev S6x128 : Shape := ⟨2, ![6, 128]⟩
abbrev S32x128 : Shape := ⟨2, ![32, 128]⟩
abbrev S128x1 : Shape := ⟨2, ![128, 1]⟩
abbrev S128x128 : Shape := ⟨2, ![128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S16x1x256 : Shape := ⟨3, ![16, 1, 256]⟩
abbrev S64x64x4096 : Shape := ⟨3, ![64, 64, 4096]⟩
abbrev S1x1x256 : Shape := ⟨3, ![1, 1, 256]⟩
abbrev S64x64x256 : Shape := ⟨3, ![64, 64, 256]⟩
abbrev S_ : Shape := ⟨0, ![]⟩
abbrev S1x1 : Shape := ⟨2, ![1, 1]⟩
abbrev S4096x64x64 : Shape := ⟨3, ![4096, 64, 64]⟩

abbrev nBuf : Space → Nat
  | .hbm => 24
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S2048x64, .f32⟩
  | .hbm, ⟨2, _⟩ => ⟨S4096x1, .f32⟩
  | .hbm, ⟨3, _⟩ => ⟨S4096x1, .i32⟩
  | .hbm, ⟨4, _⟩ => ⟨S8x128, .f32⟩
  | .hbm, ⟨5, _⟩ => ⟨S32x128, .f32⟩
  | .hbm, ⟨6, _⟩ => ⟨S4096x1, .i32⟩
  | .hbm, ⟨7, _⟩ => ⟨S8x128, .f32⟩
  | .hbm, ⟨8, _⟩ => ⟨S32x128, .i32⟩
  | .hbm, ⟨9, _⟩ => ⟨S32x128, .i32⟩
  | .hbm, ⟨10, _⟩ => ⟨S4096x1, .i32⟩
  | .hbm, ⟨11, _⟩ => ⟨S16x1x256, .i32⟩
  | .hbm, ⟨12, _⟩ => ⟨S16x1x256, .f32⟩
  | .hbm, ⟨13, _⟩ => ⟨S64x64x4096, .f32⟩
  | .hbm, ⟨14, _⟩ => ⟨S64x64x4096, .i32⟩
  | .hbm, ⟨15, _⟩ => ⟨S_, .i32⟩
  | .hbm, ⟨16, _⟩ => ⟨S64x64x4096, .i32⟩
  | .hbm, ⟨17, _⟩ => ⟨S64x64x4096, .i1⟩
  | .hbm, ⟨18, _⟩ => ⟨S64x64x4096, .i1⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S4096x64x64, .f32⟩
  | .hbm, ⟨23, _⟩ => ⟨S4096x64x64, .i1⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S1024x1, .f32⟩
  | .local _ .vmem, ⟨4, _⟩ => ⟨S1024x1, .f32⟩
  | .local _ .vmem, ⟨5, _⟩ => ⟨S1024x1, .i32⟩
  | .local _ .vmem, ⟨6, _⟩ => ⟨S1024x1, .i32⟩
  | .local _ .vmem, ⟨7, _⟩ => ⟨S8x128, .f32⟩
  | .local _ .vmem, ⟨8, _⟩ => ⟨S128x1, .f32⟩
  | .local _ .vmem, ⟨9, _⟩ => ⟨S128x1, .f32⟩
  | .local _ .vmem, ⟨10, _⟩ => ⟨S32x128, .f32⟩
  | .local _ .vmem, ⟨11, _⟩ => ⟨S8x128, .f32⟩
  | .local _ .vmem, ⟨12, _⟩ => ⟨S128x1, .i32⟩
  | .local _ .vmem, ⟨13, _⟩ => ⟨S128x1, .i32⟩
  | .local _ .vmem, ⟨14, _⟩ => ⟨S8x128, .f32⟩
  | .local _ .vmem, ⟨15, _⟩ => ⟨S128x1, .i32⟩
  | .local _ .vmem, ⟨16, _⟩ => ⟨S128x1, .i32⟩
  | .local _ .vmem, ⟨17, _⟩ => ⟨S128x1, .i32⟩
  | .local _ .vmem, ⟨18, _⟩ => ⟨S128x1, .i32⟩
  | .local _ .vmem, ⟨19, _⟩ => ⟨S32x128, .i32⟩
  | .local _ .vmem, ⟨20, _⟩ => ⟨S32x128, .i32⟩
  | .local _ .vmem, ⟨21, _⟩ => ⟨S128x1, .i32⟩
  | .local _ .vmem, ⟨22, _⟩ => ⟨S128x1, .i32⟩
  | .local _ .vmem, ⟨23, _⟩ => ⟨S1x1x256, .i32⟩
  | .local _ .vmem, ⟨24, _⟩ => ⟨S1x1x256, .i32⟩
  | .local _ .vmem, ⟨25, _⟩ => ⟨S1x1x256, .f32⟩
  | .local _ .vmem, ⟨26, _⟩ => ⟨S1x1x256, .f32⟩
  | .local _ .vmem, ⟨27, _⟩ => ⟨S64x64x256, .f32⟩
  | .local _ .vmem, ⟨28, _⟩ => ⟨S64x64x256, .f32⟩
  | .local _ .vmem, ⟨29, _⟩ => ⟨S64x64x256, .i32⟩
  | .local _ .vmem, ⟨30, _⟩ => ⟨S64x64x256, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def k1_cond1 (i : grid1.Coords) : BitVec 1 :=
  let arg0 : BitVec 32 := BitVec.ofNat 32 (i 0).val
  let c0_i32_70 : BitVec 32 := 0#32
  let v652 : BitVec 1 := Scalar.cmpi .eq arg0 c0_i32_70
  let v653 : BitVec 32 := Scalar.extui v652
  let c0_i32_71 : BitVec 32 := 0#32
  let v654 : BitVec 1 := Scalar.cmpi .ne v653 c0_i32_71
  v654

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage3_0 : Fin 2 → Memref sig .tc .vmem S1x1x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x64x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x64x256 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S4096x2048 : Shape := ⟨2, ![4096, 2048]⟩
abbrev S2048x64 : Shape := ⟨2, ![2048, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S64 : Shape := ⟨1, ![64]⟩
abbrev S2048 : Shape := ⟨1, ![2048]⟩
abbrev S4096x64x1 : Shape := ⟨3, ![4096, 64, 1]⟩
abbrev S4096x1x64 : Shape := ⟨3, ![4096, 1, 64]⟩
abbrev S4096x64x64 : Shape := ⟨3, ![4096, 64, 64]⟩

abbrev nBuf : Space → Nat
  | .hbm => 109
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x64, .f32⟩
  | .hbm, ⟨16, _⟩ => ⟨S4096x64, .f32⟩
  | .hbm, ⟨17, _⟩ => ⟨S4096x64, .i32⟩
  | .hbm, ⟨18, _⟩ => ⟨S_, .f32⟩
  | .hbm, ⟨19, _⟩ => ⟨S_, .i32⟩
  | .hbm, ⟨20, _⟩ => ⟨S4096, .f32⟩
  | .hbm, ⟨21, _⟩ => ⟨S4096, .i32⟩
  | .hbm, ⟨22, _⟩ => ⟨S4096x1, .i32⟩
  | .hbm, ⟨23, _⟩ => ⟨S1x64, .i32⟩
  | .hbm, ⟨24, _⟩ => ⟨S4096x64, .i32⟩
  | .hbm, ⟨25, _⟩ => ⟨S4096x64, .i32⟩
  | .hbm, ⟨26, _⟩ => ⟨S4096x64, .i1⟩
  | .hbm, ⟨27, _⟩ => ⟨S4096x64, .i32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S4096x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .i32⟩
  | .hbm, ⟨52, _⟩ => ⟨S4096, .f32⟩
  | .hbm, ⟨53, _⟩ => ⟨S4096, .i32⟩
  | .hbm, ⟨54, _⟩ => ⟨S2048, .i32⟩
  | .hbm, ⟨55, _⟩ => ⟨S2048, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x64, .i32⟩
  | .hbm, ⟨69, _⟩ => ⟨S_, .i32⟩
  | .hbm, ⟨70, _⟩ => ⟨S_, .i32⟩
  | .hbm, ⟨71, _⟩ => ⟨S4096x64, .i32⟩
  | .hbm, ⟨72, _⟩ => ⟨S_, .i32⟩
  | .hbm, ⟨73, _⟩ => ⟨S4096x64, .i32⟩
  | .hbm, ⟨74, _⟩ => ⟨S4096x64, .i32⟩
  | .hbm, ⟨75, _⟩ => ⟨S4096x64, .i32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S4096x1, .i32⟩
  | .hbm, ⟨84, _⟩ => ⟨S4096x64, .i32⟩
  | .hbm, ⟨85, _⟩ => ⟨S_, .i32⟩
  | .hbm, ⟨86, _⟩ => ⟨S4096x64, .i32⟩
  | .hbm, ⟨87, _⟩ => ⟨S4096x64, .i1⟩
  | .hbm, ⟨88, _⟩ => ⟨S4096x64, .i32⟩
  | .hbm, ⟨89, _⟩ => ⟨S4096x64, .i32⟩
  | .hbm, ⟨90, _⟩ => ⟨S4096x64, .i32⟩
  | .hbm, ⟨91, _⟩ => ⟨S_, .i32⟩
  | .hbm, ⟨92, _⟩ => ⟨S4096, .i32⟩
  | .hbm, ⟨93, _⟩ => ⟨S4096x64, .f32⟩
  | .hbm, ⟨94, _⟩ => ⟨S4096x64, .f32⟩
  | .hbm, ⟨95, _⟩ => ⟨S4096x1, .i32⟩
  | .hbm, ⟨96, _⟩ => ⟨S1x64, .i32⟩
  | .hbm, ⟨97, _⟩ => ⟨S4096x64, .i32⟩
  | .hbm, ⟨98, _⟩ => ⟨S4096x64, .i32⟩
  | .hbm, ⟨99, _⟩ => ⟨S4096x64, .i1⟩
  | .hbm, ⟨100, _⟩ => ⟨S4096x64, .f32⟩
  | .hbm, ⟨101, _⟩ => ⟨S4096x64x1, .f32⟩
  | .hbm, ⟨102, _⟩ => ⟨S4096x1x64, .f32⟩
  | .hbm, ⟨103, _⟩ => ⟨S4096x64x64, .f32⟩
  | .hbm, ⟨104, _⟩ => ⟨S4096x64x64, .f32⟩
  | .hbm, ⟨105, _⟩ => ⟨S4096x64x64, .f32⟩
  | .hbm, ⟨106, _⟩ => ⟨S_, .f32⟩
  | .hbm, ⟨107, _⟩ => ⟨S4096x64x64, .f32⟩
  | .hbm, ⟨108, _⟩ => ⟨S4096x64x64, .i1⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_cst_10 : Ref sig .tc := ⟨.hbm, 48, rfl⟩
abbrev main_v26 : Ref sig .tc := ⟨.hbm, 49, rfl⟩
abbrev main_v27 : Ref sig .tc := ⟨.hbm, 50, rfl⟩
abbrev main_call2_v0 : Ref sig .tc := ⟨.hbm, 51, rfl⟩
abbrev main_call2_v1_0 : Ref sig .tc := ⟨.hbm, 52, rfl⟩
abbrev main_v28 : Ref sig .tc := ⟨.hbm, 53, rfl⟩
abbrev main_call3_v0 : Ref sig .tc := ⟨.hbm, 54, rfl⟩
abbrev main_call3_v1 : Ref sig .tc := ⟨.hbm, 55, rfl⟩
abbrev main_v29 : Ref sig .tc := ⟨.hbm, 56, rfl⟩
abbrev main_call4_v0 : Ref sig .tc := ⟨.hbm, 57, rfl⟩
abbrev main_call4_v1_0 : Ref sig .tc := ⟨.hbm, 58, rfl⟩
abbrev main_v30 : Ref sig .tc := ⟨.hbm, 59, rfl⟩
abbrev main_c : Ref sig .tc := ⟨.hbm, 60, rfl⟩
abbrev main_v31 : Ref sig .tc := ⟨.hbm, 61, rfl⟩
abbrev main_v32 : Ref sig .tc := ⟨.hbm, 62, rfl⟩
abbrev main_c_11 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call5_call0_c : Ref sig .tc := ⟨.hbm, 69, rfl⟩
abbrev main_call5_call0_v0 : Ref sig .tc := ⟨.hbm, 70, rfl⟩
abbrev main_v38 : Ref sig .tc := ⟨.hbm, 71, rfl⟩
abbrev main_c_12 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_13 : Ref sig .tc := ⟨.hbm, 76, rfl⟩
abbrev main_v42 : Ref sig .tc := ⟨.hbm, 77, rfl⟩
abbrev main_v43 : Ref sig .tc := ⟨.hbm, 78, rfl⟩
abbrev main_c_14 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_15 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_16 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_17 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]
-- ==== Proof.GateRegion.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The gate kernel (first launch): each point writes the row maximum and the expert index of its 1024 rows
and adds the block's column sums onto the statistics tile. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The kernel body on any staging memrefs: a subtype the run finds -/

/-- One staging buffer of output window 2, through which its contents are stated (`View.read_writes_of_cover`: the
    choice does not matter). -/
abbrev VO0_2 : View sig .tc .vmem S1024x1 .f32 := (Memref.whole cc0_stg2_0 : Memref sig .tc .vmem S1024x1 .f32).view
/-- One staging buffer of output window 3, through which its contents are stated (`View.read_writes_of_cover`: the
    choice does not matter). -/
abbrev VO0_3 : View sig .tc .vmem S1024x1 .i32 := (Memref.whole cc0_stg3_0 : Memref sig .tc .vmem S1024x1 .i32).view
/-- One staging buffer of output window 4, through which its contents are stated (`View.read_writes_of_cover`: the
    choice does not matter). -/
abbrev VO0_4 : View sig .tc .vmem S8x128 .f32 := (Memref.whole cc0_stg4_0 : Memref sig .tc .vmem S8x128 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) :
    Σ' (L2 : List (View.Piece (Elt F) S1024x1 .f32)), Σ' (L3 : List (View.Piece (Elt F) S1024x1 .i32)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__gate_body i arg1 harg1 arg2 harg2 arg3 harg3 arg4 harg4 arg5 harg5) K } := by
  refine ⟨?_, ?_, ?_, fun E K => ?run⟩
  case run =>
    simp only [cc0__gate_body_eq_skeleton]; unfold cc0__gate_body_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case A's pieces for output 2 tile its block (1 store of `S1024x1`), so they cover it. -/
theorem cover0_A_2 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) (y : S1024x1.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S1024x1.size (by sl_kernel_rfl) y

/-- What case A leaves in output 2's staging buffer: its pieces read back over junk. -/
def out0_A_2 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) : Vec F S1024x1 .f32 :=
  VO0_2.read (Elt F) (VO0_2.writes (Elt F) VO0_2.junk (kernelRun0_A c i arg1 harg1 arg2 harg2 arg3 harg3 arg4 harg4 arg5 harg5 hc0 x0 x1).1)

/-- Case A's pieces for output 3 tile its block (1 store of `S1024x1`), so they cover it. -/
theorem cover0_A_3 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) (y : S1024x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1024x1.size (by sl_kernel_rfl) y

/-- What case A leaves in output 3's staging buffer: its pieces read back over junk. -/
def out0_A_3 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) : Vec F S1024x1 .i32 :=
  VO0_3.read (Elt F) (VO0_3.writes (Elt F) VO0_3.junk (kernelRun0_A c i arg1 harg1 arg2 harg2 arg3 harg3 arg4 harg4 arg5 harg5 hc0 x0 x1).2.1)

/-- Case A's pieces for output 4 tile its block (2 stores of `S8x128`), so they cover it. -/
theorem cover0_A_4 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) (y : S8x128.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S8x128.size (by sl_kernel_rfl) y

/-- What case A leaves in output 4's staging buffer: its pieces read back over junk. -/
def out0_A_4 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : cond0_0 i)
    (x0 : Vec F S1024x2048 .f32) (x1 : Vec F S2048x64 .f32) : Vec F S8x128 .f32 :=
  VO0_4.read (Elt F) (VO0_4.writes (Elt F) VO0_4.junk (kernelRun0_A c i arg1 harg1 arg2 harg2 arg3 harg3 arg4 harg4 arg5 harg5 hc0 x0 x1).2.2.1)

-- (the run's proof term is large: the definition's epilogue — `abstractNestedProofs` — walks it past the default budget)
set_option maxHeartbeats 1000000 in
/-- What the body's stores leave in each output's staging memref, as pieces (last first) IN CASE B (`scf.if` 0 not taken: points 1, 2, 3), WITH the
    proof that on whole staging memrefs — the inputs' at their contents, the outputs it reads before covering (4) at their running contents `xo·`, the other outputs' at
    anything, the body runs to the continuation holding the inputs' as they were,
    each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) :
    Σ' (L2 : List (View.Piece (Elt F) S1024x1 .f32)), Σ' (L3 : List (View.Piece (Elt F) S1024x1 .i32)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__gate_body i arg1 harg1 arg2 harg2 arg3 harg3 arg4 harg4 arg5 harg5) K } := by
  refine ⟨?_, ?_, ?_, fun E K => ?run⟩
  case run =>
    simp only [cc0__gate_body_eq_skeleton]; unfold cc0__gate_body_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case B's pieces for output 2 tile its block (1 store of `S1024x1`), so they cover it. -/
theorem cover0_B_2 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) (y : S1024x1.Idx) :
    ∃ pc ∈ (kernelRun0_B c i arg1 harg1 arg2 harg2 arg3 harg3 arg4 harg4 arg5 harg5 hc0 x0 x1 xo4).1, y ∈ pc.1.set :=
  View.cover_of_tiledL (kernelRun0_B c i arg1 harg1 arg2 harg2 arg3 harg3 arg4 harg4 arg5 harg5 hc0 x0 x1 xo4).1 S1024x1.size (by sl_kernel_rfl) y

/-- What case B leaves in output 2's staging buffer: its pieces read back over junk. -/
def out0_B_2 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) : Vec F S1024x1 .f32 :=
  VO0_2.read (Elt F) (VO0_2.writes (Elt F) VO0_2.junk (kernelRun0_B c i arg1 harg1 arg2 harg2 arg3 harg3 arg4 harg4 arg5 harg5 hc0 x0 x1 xo4).1)

/-- Case B's pieces for output 3 tile its block (1 store of `S1024x1`), so they cover it. -/
theorem cover0_B_3 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) (y : S1024x1.Idx) :
    ∃ pc ∈ (kernelRun0_B c i arg1 harg1 arg2 harg2 arg3 harg3 arg4 harg4 arg5 harg5 hc0 x0 x1 xo4).2.1, y ∈ pc.1.set :=
  View.cover_of_tiledL (kernelRun0_B c i arg1 harg1 arg2 harg2 arg3 harg3 arg4 harg4 arg5 harg5 hc0 x0 x1 xo4).2.1 S1024x1.size (by sl_kernel_rfl) y

/-- What case B leaves in output 3's staging buffer: its pieces read back over junk. -/
def out0_B_3 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) : Vec F S1024x1 .i32 :=
  VO0_3.read (Elt F) (VO0_3.writes (Elt F) VO0_3.junk (kernelRun0_B c i arg1 harg1 arg2 harg2 arg3 harg3 arg4 harg4 arg5 harg5 hc0 x0 x1 xo4).2.1)

/-- Case B's pieces for output 4 tile its block (1 store of `S8x128`), so they cover it. -/
theorem cover0_B_4 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) (y : S8x128.Idx) :
    ∃ pc ∈ (kernelRun0_B c i arg1 harg1 arg2 harg2 arg3 harg3 arg4 harg4 arg5 harg5 hc0 x0 x1 xo4).2.2.1, y ∈ pc.1.set :=
  View.cover_of_tiledL (kernelRun0_B c i arg1 harg1 arg2 harg2 arg3 harg3 arg4 harg4 arg5 harg5 hc0 x0 x1 xo4).2.2.1 S8x128.size (by sl_kernel_rfl) y

/-- What case B leaves in output 4's staging buffer: its pieces read back over junk. -/
def out0_B_4 (c : Dev nD) (i : grid0.Coords) (arg1 : Memref sig .tc .vmem S1024x2048 .f32) (harg1 : arg1.IsWhole) (arg2 : Memref sig .tc .vmem S2048x64 .f32) (harg2 : arg2.IsWhole) (arg3 : Memref sig .tc .vmem S1024x1 .f32) (harg3 : arg3.IsWhole) (arg4 : Memref sig .tc .vmem S1024x1 .i32) (harg4 : arg4.IsWhole) (arg5 : Memref sig .tc .vmem S8x128 .f32) (harg5 : arg5.IsWhole) (hc0 : ¬cond0_0 i)
    (x0 : Vec F S1024x2048 .f32) (x1 : Vec F S2048x64 .f32) (xo4 : Vec F S8x128 .f32) : Vec F S8x128 .f32 :=
  VO0_4.read (Elt F) (VO0_4.writes (Elt F) VO0_4.junk (kernelRun0_B c i arg1 harg1 arg2 harg2 arg3 harg3 arg4 harg4 arg5 harg5 hc0 x0 x1 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1 .f32 × Vec F S1024x1 .i32 × Vec F S8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2)

/-- `outsAt0` at a point of case A: that case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
   ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 4's current staging buffer holds what the body left at the point before: the point is
    not the first, the buffer was not written back between (`flush0_4`), the window is live and uncut. -/
theorem before0_4_B (c : Dev nD) (t : Fin cfg0.N) (h0 : ¬t.val % 4 = 0) (d) :
    (dat0 V c).before 4 t d = (outsAt0 V c (t.val - 1) (Nat.lt_of_le_of_lt (Nat.sub_le _ _) t.isLt)).2.2 := by
  have hN : t.val < 4 := lt_of_lt_of_eq t.isLt (show cfg0.N = 4 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 4 := lt_of_lt_of_eq t.isLt (show cfg0.N = 4 from N_0)
  by_cases h0 : t.val % 4 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_4_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Hand
-- ==== Proof.RankRegion.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The rank kernel (second launch): each point ranks 128 tokens; the first one also writes the loss tile, which the
other points leave alone. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1 of @main: custom_call 1, `cc1__rank_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x1 := Rect.unit (s := S128x1) ![0, 0] S128x1.size inb_S128x1_S128x1_0_0
abbrev r1_1 : Rect S32x128 := Rect.unit (s := S32x128) ![0, 0] S1x128.size inb_S32x128_S1x128_0_0
abbrev r1_2 : Rect S32x128 := Rect.unit (s := S32x128) ![1, 0] S1x128.size inb_S32x128_S1x128_1_0
abbrev r1_3 : Rect S32x128 := Rect.unit (s := S32x128) ![2, 0] S1x128.size inb_S32x128_S1x128_2_0
abbrev r1_4 : Rect S32x128 := Rect.unit (s := S32x128) ![3, 0] S1x128.size inb_S32x128_S1x128_3_0
abbrev r1_5 : Rect S32x128 := Rect.unit (s := S32x128) ![4, 0] S1x128.size inb_S32x128_S1x128_4_0
abbrev r1_6 : Rect S32x128 := Rect.unit (s := S32x128) ![5, 0] S1x128.size inb_S32x128_S1x128_5_0
abbrev r1_7 : Rect S32x128 := Rect.unit (s := S32x128) ![6, 0] S1x128.size inb_S32x128_S1x128_6_0
abbrev r1_8 : Rect S32x128 := Rect.unit (s := S32x128) ![7, 0] S1x128.size inb_S32x128_S1x128_7_0
abbrev r1_9 : Rect S32x128 := Rect.unit (s := S32x128) ![8, 0] S1x128.size inb_S32x128_S1x128_8_0
abbrev r1_10 : Rect S32x128 := Rect.unit (s := S32x128) ![9, 0] S1x128.size inb_S32x128_S1x128_9_0
abbrev r1_11 : Rect S32x128 := Rect.unit (s := S32x128) ![10, 0] S1x128.size inb_S32x128_S1x128_10_0
abbrev r1_12 : Rect S32x128 := Rect.unit (s := S32x128) ![11, 0] S1x128.size inb_S32x128_S1x128_11_0
abbrev r1_13 : Rect S32x128 := Rect.unit (s := S32x128) ![12, 0] S1x128.size inb_S32x128_S1x128_12_0
abbrev r1_14 : Rect S32x128 := Rect.unit (s := S32x128) ![13, 0] S1x128.size inb_S32x128_S1x128_13_0
abbrev r1_15 : Rect S32x128 := Rect.unit (s := S32x128) ![14, 0] S1x128.size inb_S32x128_S1x128_14_0
abbrev r1_16 : Rect S32x128 := Rect.unit (s := S32x128) ![15, 0] S1x128.size inb_S32x128_S1x128_15_0
abbrev r1_17 : Rect S32x128 := Rect.unit (s := S32x128) ![16, 0] S1x128.size inb_S32x128_S1x128_16_0
abbrev r1_18 : Rect S32x128 := Rect.unit (s := S32x128) ![17, 0] S1x128.size inb_S32x128_S1x128_17_0
abbrev r1_19 : Rect S32x128 := Rect.unit (s := S32x128) ![18, 0] S1x128.size inb_S32x128_S1x128_18_0
abbrev r1_20 : Rect S32x128 := Rect.unit (s := S32x128) ![19, 0] S1x128.size inb_S32x128_S1x128_19_0
abbrev r1_21 : Rect S32x128 := Rect.unit (s := S32x128) ![20, 0] S1x128.size inb_S32x128_S1x128_20_0
abbrev r1_22 : Rect S32x128 := Rect.unit (s := S32x128) ![21, 0] S1x128.size inb_S32x128_S1x128_21_0
abbrev r1_23 : Rect S32x128 := Rect.unit (s := S32x128) ![22, 0] S1x128.size inb_S32x128_S1x128_22_0
abbrev r1_24 : Rect S32x128 := Rect.unit (s := S32x128) ![23, 0] S1x128.size inb_S32x128_S1x128_23_0
abbrev r1_25 : Rect S32x128 := Rect.unit (s := S32x128) ![24, 0] S1x128.size inb_S32x128_S1x128_24_0
abbrev r1_26 : Rect S32x128 := Rect.unit (s := S32x128) ![25, 0] S1x128.size inb_S32x128_S1x128_25_0
abbrev r1_27 : Rect S32x128 := Rect.unit (s := S32x128) ![26, 0] S1x128.size inb_S32x128_S1x128_26_0
abbrev r1_28 : Rect S32x128 := Rect.unit (s := S32x128) ![27, 0] S1x128.size inb_S32x128_S1x128_27_0
abbrev r1_29 : Rect S32x128 := Rect.unit (s := S32x128) ![28, 0] S1x128.size inb_S32x128_S1x128_28_0
abbrev r1_30 : Rect S32x128 := Rect.unit (s := S32x128) ![29, 0] S1x128.size inb_S32x128_S1x128_29_0
abbrev r1_31 : Rect S32x128 := Rect.unit (s := S32x128) ![30, 0] S1x128.size inb_S32x128_S1x128_30_0
abbrev r1_32 : Rect S32x128 := Rect.unit (s := S32x128) ![31, 0] S1x128.size inb_S32x128_S1x128_31_0
abbrev r1_33 : Rect S8x128 := Rect.unit (s := S8x128) ![0, 0] S8x128.size inb_S8x128_S8x128_0_0

/-! ## What the body leaves in each output window's buffer -/

/-! ### Values of the body that the stores' payloads, spelt out, would write more than once

    Each is a vector the body binds (often a part call's result), stated over the input windows' blocks and
    numbered on from the skeleton's payload functions (`k1_pay42` …, after `k1_pay41`), so that
    `out1_W` and the values after it name it instead of spelling it out (`unfold_out out1_W` opens a canon
    with them, `unfold_payloads` opens them with the payloads); the comment after each is the printed function's
    name for the value (a count appended where that name is bound again). -/

def k1_pay42 (i : grid1.Coords) (x0 : Vec F S128x1 .f32) (x1 : Vec F S32x128 .f32) (x2 : Vec F S8x128 .f32) : FVec F S128x1 .f32 :=
  k1_pay3 (View.ld x0 r1_0) -- `v1`
def k1_pay43 (i : grid1.Coords) (x0 : Vec F S128x1 .f32) (x1 : Vec F S32x128 .f32) (x2 : Vec F S8x128 .f32) : IVec S128x1 32 :=
  k1_pay4 i -- `v5`

/-- Window 3's staging buffer after the body, from the input windows' blocks: its 1 store as pieces, LAST
    FIRST. -/
def out1_3 (i : grid1.Coords) (x0 : Vec F S128x1 .f32) (x1 : Vec F S32x128 .f32) (x2 : Vec F S8x128 .f32) : Vec F S128x1 .i32 :=
  View.canon [⟨r1_0, k1_pay1 (k1_pay41 (k1_pay42 i x0 x1 x2) (k1_pay43 i x0 x1 x2) (k1_pay36 (k1_pay42 i x0 x1 x2) (k1_pay43 i x0 x1 x2) (k1_pay35 (k1_pay42 i x0 x1 x2) (k1_pay43 i x0 x1 x2) (k1_pay30 (k1_pay42 i x0 x1 x2) (k1_pay43 i x0 x1 x2) (k1_pay29 (k1_pay42 i x0 x1 x2) (k1_pay43 i x0 x1 x2) (k1_pay24 (k1_pay42 i x0 x1 x2) (k1_pay43 i x0 x1 x2) (k1_pay23 (k1_pay42 i x0 x1 x2) (k1_pay43 i x0 x1 x2) (k1_pay18 (k1_pay42 i x0 x1 x2) (k1_pay43 i x0 x1 x2) (k1_pay17 (k1_pay42 i x0 x1 x2) (k1_pay43 i x0 x1 x2) (k1_pay12 (k1_pay42 i x0 x1 x2) (k1_pay43 i x0 x1 x2) (k1_pay11 (k1_pay42 i x0 x1 x2) (k1_pay43 i x0 x1 x2) (k1_pay6 (k1_pay42 i x0 x1 x2) (k1_pay43 i x0 x1 x2) (k1_pay5 i (View.ld x0 r1_0) (View.ld x1 r1_1) (View.ld x1 r1_2)) (View.ld x1 r1_3) (View.ld x1 r1_4)) k1_pay8 (k1_pay9 (k1_pay42 i x0 x1 x2) (View.ld x1 r1_5)) (k1_pay10 (View.ld x1 r1_5)) (View.ld x1 r1_6) (View.ld x1 r1_7)) (View.ld x1 r1_8) (View.ld x1 r1_9)) k1_pay14 (k1_pay15 (k1_pay42 i x0 x1 x2) (View.ld x1 r1_10)) (k1_pay16 (View.ld x1 r1_10)) (View.ld x1 r1_11) (View.ld x1 r1_12)) (View.ld x1 r1_13) (View.ld x1 r1_14)) k1_pay20 (k1_pay21 (k1_pay42 i x0 x1 x2) (View.ld x1 r1_15)) (k1_pay22 (View.ld x1 r1_15)) (View.ld x1 r1_16) (View.ld x1 r1_17)) (View.ld x1 r1_18) (View.ld x1 r1_19)) k1_pay26 (k1_pay27 (k1_pay42 i x0 x1 x2) (View.ld x1 r1_20)) (k1_pay28 (View.ld x1 r1_20)) (View.ld x1 r1_21) (View.ld x1 r1_22)) (View.ld x1 r1_23) (View.ld x1 r1_24)) k1_pay32 (k1_pay33 (k1_pay42 i x0 x1 x2) (View.ld x1 r1_25)) (k1_pay34 (View.ld x1 r1_25)) (View.ld x1 r1_26) (View.ld x1 r1_27)) (View.ld x1 r1_28) (View.ld x1 r1_29)) k1_pay38 (k1_pay39 (k1_pay42 i x0 x1 x2) (View.ld x1 r1_30)) (k1_pay40 (View.ld x1 r1_30)) (View.ld x1 r1_31) (View.ld x1 r1_32))⟩]

/-- Its stores tile the buffer (checked by evaluation), so they cover it. -/
theorem cover1_3 (p0 : Vec F S128x1 .i32) (y : S128x1.Idx) :
    ∃ pc ∈ ([⟨r1_0, p0⟩] : List (View.Piece (Elt F) S128x1 .i32)), y ∈ pc.1.set :=
  View.cover_of_tiled [⟨r1_0, p0⟩] S128x1.size (by rfl) y

/-- Window 4's staging buffer after the body, from the input windows' blocks: its 1 store as pieces, LAST
    FIRST. -/
def out1_4 (i : grid1.Coords) (x0 : Vec F S128x1 .f32) (x1 : Vec F S32x128 .f32) (x2 : Vec F S8x128 .f32) : Vec F S8x128 .f32 :=
  View.canon [⟨r1_33, k1_pay2 (View.ld x2 r1_33)⟩]

/-- Its stores tile the buffer (checked by evaluation), so they cover it. -/
theorem cover1_4 (p0 : Vec F S8x128 .f32) (y : S8x128.Idx) :
    ∃ pc ∈ ([⟨r1_33, p0⟩] : List (View.Piece (Elt F) S8x128 .f32)), y ∈ pc.1.set :=
  View.cover_of_tiled [⟨r1_33, p0⟩] S8x128.size (by rfl) y

/-! ## The body's triple -/

/-! ## The body's branch condition -/

/-- The condition under which the body writes the loss tile. -/
abbrev cond1 (i : grid1.Coords) : Prop := k1_cond1 i = 1#1

/-- It holds at the first point only. -/
theorem hcond1 (t : Fin cfg1.N) : cond1 (grid1.coords t) ↔ t.val = 0 := by
  have ht : t.val < 32 := Nat.lt_of_lt_of_eq t.isLt N_1
  have e0 : (grid1.coords t 0).val = t.val / 1 % 32 := Pipeline.Grid.coords_val t 0 (by decide) rfl
  have e : t.val / 1 % 32 = t.val := by omega
  simp only [cond1, k1_cond1, e0, e]
  word_cmp

set_option maxHeartbeats 1000000 in
/-- The body at the first point, on whole staging memrefs: both outputs are written. -/
theorem sound_kernel1_A (c : Dev nD) (E : Set ℕ) (i : grid1.Coords) (arg1 : Memref sig .tc .vmem S128x1 .f32) (harg1 : arg1.IsWhole) (arg2 : Memref sig .tc .vmem S32x128 .f32) (harg2 : arg2.IsWhole) (arg3 : Memref sig .tc .vmem S8x128 .f32) (harg3 : arg3.IsWhole) (arg4 : Memref sig .tc .vmem S128x1 .i32) (harg4 : arg4.IsWhole) (arg5 : Memref sig .tc .vmem S8x128 .f32) (harg5 : arg5.IsWhole)
    (hc : cond1 i) (x0 : Vec F S128x1 .f32) (x1 : Vec F S32x128 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 i x0 x1 x2) ∗ owns (c : Thread nD τ) arg5 fullShare (out1_4 i x0 x1 x2)) -∗ K ⟨⟩))
      ⊢ wp frame (wpE (defs₀ (F := F)) Variants.none c none) E (cc1__rank_body i arg1 harg1 arg2 harg2 arg3 harg3 arg4 harg4 arg5 harg5) K := by
  simp only [cc1__rank_body_eq_skeleton]; unfold cc1__rank_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  iexists _; isplitr
  swap; · iexact H4
  ipureintro
  refine (View.read_writes_eq_canon _ _ _ (cover1_4 _)).trans ?_
  rfl

set_option maxHeartbeats 1000000 in
/-- The body at any other point: the loss tile's memref keeps what it held. -/
theorem sound_kernel1_B (c : Dev nD) (E : Set ℕ) (i : grid1.Coords) (arg1 : Memref sig .tc .vmem S128x1 .f32) (harg1 : arg1.IsWhole) (arg2 : Memref sig .tc .vmem S32x128 .f32) (harg2 : arg2.IsWhole) (arg3 : Memref sig .tc .vmem S8x128 .f32) (harg3 : arg3.IsWhole) (arg4 : Memref sig .tc .vmem S128x1 .i32) (harg4 : arg4.IsWhole) (arg5 : Memref sig .tc .vmem S8x128 .f32) (harg5 : arg5.IsWhole)
    (hc : ¬cond1 i) (x0 : Vec F S128x1 .f32) (x1 : Vec F S32x128 .f32) (x2 : Vec F S8x128 .f32) (xo : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo
        ∗ (iprop(owns (c : Thread nD τ) arg1 fullShare x0 ∗ owns (c : Thread nD τ) arg2 fullShare x1 ∗ owns (c : Thread nD τ) arg3 fullShare x2 ∗ owns (c : Thread nD τ) arg4 fullShare (out1_3 i x0 x1 x2) ∗ owns (c : Thread nD τ) arg5 fullShare xo) -∗ K ⟨⟩))
      ⊢ wp frame (wpE (defs₀ (F := F)) Variants.none c none) E (cc1__rank_body i arg1 harg1 arg2 harg2 arg3 harg3 arg4 harg4 arg5 harg5) K := by
  simp only [cc1__rank_body_eq_skeleton]; unfold cc1__rank_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  iexists f4; isplitr; · ipureintro; rfl
  iexact H4

/-! ## The pipeline's proof data -/

/-- The first point. -/
abbrev pt1_0 : Fin cfg1.N := ⟨0, by rw [show cfg1.N = 32 from N_1]; decide⟩
/-- The loss tile as the first point writes it. -/
def loss1 (c : Dev nD) : Vec F S8x128 .f32 :=
  out1_4 (grid1.coords pt1_0) (iblk1 V c 0 pt1_0) (iblk1 V c 1 pt1_0) (iblk1 V c 2 pt1_0)

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => loss1 V c
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]
theorem after1_4 (c : Dev nD) (t : Fin cfg1.N) : (dat1 V c).after 4 t = loss1 V c := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Where the loss tile's window is idle: everywhere but at the first point. -/
theorem idle1_4 (t : Fin cfg1.N) : cfg1.idle 4 (cfg1.grid.coords t) = !decide (t.val = 0) := by
  have h := hcond1 t
  show (!(k1_cond1 (grid1.coords t) == 1#1)) = _
  by_cases h0 : t.val = 0
  · rw [h.mpr h0]; simp [h0]
  · have : k1_cond1 (grid1.coords t) ≠ 1#1 := fun e => h0 (h.mp e)
    simp [h0, this]

/-- After the first point the loss tile's buffer is never fresh before the end. -/
theorem fresh1_4 : ∀ n, n + 1 < 32 → cfg1.fresh 4 (n + 1) = false
  | 0, h => by
    have hN : cfg1.N = 32 := N_1
    rw [cfg1.fresh_succ 4 0 (by omega), idle1_4]
    have hf : (cfg1.win 4).flush ⟨0, by rw [show cfg1.grid.N = 32 from N_1]; omega⟩ = false :=
      Bool.eq_false_iff.mpr fun h => by have := (flush1_4 _).mp h; dsimp only at this; omega
    rw [hf]
    rfl
  | n + 1, h => by
    have hN : cfg1.N = 32 := N_1
    rw [cfg1.fresh_succ 4 (n + 1) (by omega), fresh1_4 n (by omega)]
    have hf : (cfg1.win 4).flush ⟨n + 1, by rw [show cfg1.grid.N = 32 from N_1]; omega⟩ = false :=
      Bool.eq_false_iff.mpr fun h => by have := (flush1_4 _).mp h; dsimp only at this; omega
    rw [hf]
    simp

/-- At every point but the first the loss tile's buffer holds what the first point wrote. -/
theorem before1_4 (c : Dev nD) (t : Fin cfg1.N) (h0 : t.val ≠ 0) (d) : (dat1 V c).before 4 t d = loss1 V c := by
  have ht : t.val < 32 := Nat.lt_of_lt_of_eq t.isLt N_1
  rw [(dat1 V c).before_out_traj 4 rfl (fun _ _ => rfl) (fun t _ _ _ => by rw [after1_4, after1_4]) t.val t rfl d]
  obtain ⟨n, hn⟩ := Nat.exists_eq_succ_of_ne_zero h0
  rw [show cfg1.fresh 4 t.val = false by rw [hn]; exact fresh1_4 n (by omega), if_neg Bool.false_ne_true, after1_4]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · have et : t = pt1_0 := Fin.ext h0
    subst et
    iintro ⟨HΦ, Ho, ⟨%d0, H0⟩, ⟨%d1, H1⟩, ⟨%d2, H2⟩, ⟨%d3, H3⟩, ⟨%d4, H4⟩⟩
    iapply (sound_kernel1_A c Set.univ (grid1.coords pt1_0) _ _ _ _ _ _ _ _ _ _ ((hcond1 _).mpr rfl) (iblk1 V c 0 pt1_0) (iblk1 V c 1 pt1_0) (iblk1 V c 2 pt1_0) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before1_4 V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h => h0 ((hcond1 t).mp h)) (iblk1 V c 0 t) (iblk1 V c 1 t) (iblk1 V c 2 t) (loss1 V c) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The loss tile's buffer as the pipeline wants it handed back: as the body leaves it, or as it was found. -/
theorem handBack1_4 (c : Dev nD) (t : Fin cfg1.N) :
    (owns (c : Thread nD τ) (st1_4 t) fullShare ((dat1 V c).after 4 t) : sProp 𝕄)
      ⊢ (match cfg1.idle 4 (cfg1.grid.coords t) with
        | true =>
          match (cfg1.win 4).flush t with
          | false => iprop(∃ d, owns (c : Thread nD τ) (st1_4 t) fullShare ((dat1 V c).before 4 t d))
          | true => owns (c : Thread nD τ) (st1_4 t) fullShare ((dat1 V c).after 4 t)
        | false => owns (c : Thread nD τ) (st1_4 t) fullShare ((dat1 V c).after 4 t)) := by
  rw [idle1_4]
  by_cases h0 : t.val = 0
  · rw [decide_eq_true h0]; exact .rfl
  · rw [decide_eq_false h0]
    cases (cfg1.win 4).flush t
    · show _ ⊢ iprop(∃ d, owns (c : Thread nD τ) (st1_4 t) fullShare ((dat1 V c).before 4 t d))
      simp only [before1_4 V c t h0, after1_4]
      iintro H; iexists (loss1 V c); iexact H
    · exact .rfl

/-- The library's body obligation, at every point. -/
theorem body_obligation1 (c : Dev nD) : BodyObligation (dat1 (F := F) V c) (defs₀ (F := F)) Variants.none () Set.univ := fun t => by
  rw [bigSep_W1, bigSep_W1, defs₀_row1]
  refine triple_restated (sound_body1 V c t) rfl .rfl fun _ => ?_
  unfold bodyPost1
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (handBack1_4 V c t)
  iexact H4

end Cert.KernelIdeal.Hand
-- ==== Proof.LocRegion.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The location kernel (third launch): each point finds the slots of 128 tokens. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 2 of @main: custom_call 2, `cc2__loc_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x1 := Rect.unit (s := S128x1) ![0, 0] S128x1.size inb_S128x1_S128x1_0_0
abbrev r2_1 : Rect S32x128 := Rect.unit (s := S32x128) ![0, 0] S1x128.size inb_S32x128_S1x128_0_0
abbrev r2_2 : Rect S32x128 := Rect.unit (s := S32x128) ![1, 0] S1x128.size inb_S32x128_S1x128_1_0
abbrev r2_3 : Rect S32x128 := Rect.unit (s := S32x128) ![2, 0] S1x128.size inb_S32x128_S1x128_2_0
abbrev r2_4 : Rect S32x128 := Rect.unit (s := S32x128) ![3, 0] S1x128.size inb_S32x128_S1x128_3_0
abbrev r2_5 : Rect S32x128 := Rect.unit (s := S32x128) ![4, 0] S1x128.size inb_S32x128_S1x128_4_0
abbrev r2_6 : Rect S32x128 := Rect.unit (s := S32x128) ![5, 0] S1x128.size inb_S32x128_S1x128_5_0
abbrev r2_7 : Rect S32x128 := Rect.unit (s := S32x128) ![6, 0] S1x128.size inb_S32x128_S1x128_6_0
abbrev r2_8 : Rect S32x128 := Rect.unit (s := S32x128) ![7, 0] S1x128.size inb_S32x128_S1x128_7_0
abbrev r2_9 : Rect S32x128 := Rect.unit (s := S32x128) ![8, 0] S1x128.size inb_S32x128_S1x128_8_0
abbrev r2_10 : Rect S32x128 := Rect.unit (s := S32x128) ![9, 0] S1x128.size inb_S32x128_S1x128_9_0
abbrev r2_11 : Rect S32x128 := Rect.unit (s := S32x128) ![10, 0] S1x128.size inb_S32x128_S1x128_10_0
abbrev r2_12 : Rect S32x128 := Rect.unit (s := S32x128) ![11, 0] S1x128.size inb_S32x128_S1x128_11_0
abbrev r2_13 : Rect S32x128 := Rect.unit (s := S32x128) ![12, 0] S1x128.size inb_S32x128_S1x128_12_0
abbrev r2_14 : Rect S32x128 := Rect.unit (s := S32x128) ![13, 0] S1x128.size inb_S32x128_S1x128_13_0
abbrev r2_15 : Rect S32x128 := Rect.unit (s := S32x128) ![14, 0] S1x128.size inb_S32x128_S1x128_14_0
abbrev r2_16 : Rect S32x128 := Rect.unit (s := S32x128) ![15, 0] S1x128.size inb_S32x128_S1x128_15_0
abbrev r2_17 : Rect S32x128 := Rect.unit (s := S32x128) ![16, 0] S1x128.size inb_S32x128_S1x128_16_0
abbrev r2_18 : Rect S32x128 := Rect.unit (s := S32x128) ![17, 0] S1x128.size inb_S32x128_S1x128_17_0
abbrev r2_19 : Rect S32x128 := Rect.unit (s := S32x128) ![18, 0] S1x128.size inb_S32x128_S1x128_18_0
abbrev r2_20 : Rect S32x128 := Rect.unit (s := S32x128) ![19, 0] S1x128.size inb_S32x128_S1x128_19_0
abbrev r2_21 : Rect S32x128 := Rect.unit (s := S32x128) ![20, 0] S1x128.size inb_S32x128_S1x128_20_0
abbrev r2_22 : Rect S32x128 := Rect.unit (s := S32x128) ![21, 0] S1x128.size inb_S32x128_S1x128_21_0
abbrev r2_23 : Rect S32x128 := Rect.unit (s := S32x128) ![22, 0] S1x128.size inb_S32x128_S1x128_22_0
abbrev r2_24 : Rect S32x128 := Rect.unit (s := S32x128) ![23, 0] S1x128.size inb_S32x128_S1x128_23_0
abbrev r2_25 : Rect S32x128 := Rect.unit (s := S32x128) ![24, 0] S1x128.size inb_S32x128_S1x128_24_0
abbrev r2_26 : Rect S32x128 := Rect.unit (s := S32x128) ![25, 0] S1x128.size inb_S32x128_S1x128_25_0
abbrev r2_27 : Rect S32x128 := Rect.unit (s := S32x128) ![26, 0] S1x128.size inb_S32x128_S1x128_26_0
abbrev r2_28 : Rect S32x128 := Rect.unit (s := S32x128) ![27, 0] S1x128.size inb_S32x128_S1x128_27_0
abbrev r2_29 : Rect S32x128 := Rect.unit (s := S32x128) ![28, 0] S1x128.size inb_S32x128_S1x128_28_0
abbrev r2_30 : Rect S32x128 := Rect.unit (s := S32x128) ![29, 0] S1x128.size inb_S32x128_S1x128_29_0
abbrev r2_31 : Rect S32x128 := Rect.unit (s := S32x128) ![30, 0] S1x128.size inb_S32x128_S1x128_30_0
abbrev r2_32 : Rect S32x128 := Rect.unit (s := S32x128) ![31, 0] S1x128.size inb_S32x128_S1x128_31_0

/-! ## What the body leaves in each output window's buffer -/

/-! ### Values of the body that the stores' payloads, spelt out, would write more than once

    Each is a vector the body binds (often a part call's result), stated over the input windows' blocks and
    numbered on from the skeleton's payload functions (`k2_pay38` …, after `k2_pay37`), so that
    `out2_W` and the values after it name it instead of spelling it out (`unfold_out out2_W` opens a canon
    with them, `unfold_payloads` opens them with the payloads); the comment after each is the printed function's
    name for the value (a count appended where that name is bound again). -/

def k2_pay38 (x0 : Vec F S128x1 .i32) (x1 : Vec F S128x1 .i32) (x2 : Vec F S32x128 .i32) (x3 : Vec F S32x128 .i32) : IVec S128x1 32 :=
  k2_pay2 (View.ld x0 r2_0) -- `v1`
def k2_pay39 (x0 : Vec F S128x1 .i32) (x1 : Vec F S128x1 .i32) (x2 : Vec F S32x128 .i32) (x3 : Vec F S32x128 .i32) : IVec S128x1 32 :=
  k2_pay3 (View.ld x1 r2_0) -- `v3`
def k2_pay40 (x0 : Vec F S128x1 .i32) (x1 : Vec F S128x1 .i32) (x2 : Vec F S32x128 .i32) (x3 : Vec F S32x128 .i32) : IVec S128x1 32 :=
  k2_pay31 (k2_pay38 x0 x1 x2 x3) (k2_pay39 x0 x1 x2 x3) (k2_pay28 (k2_pay38 x0 x1 x2 x3) (k2_pay39 x0 x1 x2 x3) (k2_pay25 (k2_pay38 x0 x1 x2 x3) (k2_pay39 x0 x1 x2 x3) (k2_pay22 (k2_pay38 x0 x1 x2 x3) (k2_pay39 x0 x1 x2 x3) (k2_pay19 (k2_pay38 x0 x1 x2 x3) (k2_pay39 x0 x1 x2 x3) (k2_pay16 (k2_pay38 x0 x1 x2 x3) (k2_pay39 x0 x1 x2 x3) (k2_pay13 (k2_pay38 x0 x1 x2 x3) (k2_pay39 x0 x1 x2 x3) (k2_pay10 (k2_pay38 x0 x1 x2 x3) (k2_pay39 x0 x1 x2 x3) (k2_pay7 (k2_pay38 x0 x1 x2 x3) (k2_pay39 x0 x1 x2 x3) (k2_pay4 (View.ld x0 r2_0) (View.ld x1 r2_0) (View.ld x2 r2_1) (View.ld x3 r2_1) (View.ld x2 r2_2) (View.ld x3 r2_2)) (k2_pay5 (View.ld x2 r2_3)) (k2_pay6 (View.ld x3 r2_3)) (View.ld x2 r2_4) (View.ld x3 r2_4) (View.ld x2 r2_5) (View.ld x3 r2_5)) (k2_pay8 (View.ld x2 r2_6)) (k2_pay9 (View.ld x3 r2_6)) (View.ld x2 r2_7) (View.ld x3 r2_7) (View.ld x2 r2_8) (View.ld x3 r2_8)) (k2_pay11 (View.ld x2 r2_9)) (k2_pay12 (View.ld x3 r2_9)) (View.ld x2 r2_10) (View.ld x3 r2_10) (View.ld x2 r2_11) (View.ld x3 r2_11)) (k2_pay14 (View.ld x2 r2_12)) (k2_pay15 (View.ld x3 r2_12)) (View.ld x2 r2_13) (View.ld x3 r2_13) (View.ld x2 r2_14) (View.ld x3 r2_14)) (k2_pay17 (View.ld x2 r2_15)) (k2_pay18 (View.ld x3 r2_15)) (View.ld x2 r2_16) (View.ld x3 r2_16) (View.ld x2 r2_17) (View.ld x3 r2_17)) (k2_pay20 (View.ld x2 r2_18)) (k2_pay21 (View.ld x3 r2_18)) (View.ld x2 r2_19) (View.ld x3 r2_19) (View.ld x2 r2_20) (View.ld x3 r2_20)) (k2_pay23 (View.ld x2 r2_21)) (k2_pay24 (View.ld x3 r2_21)) (View.ld x2 r2_22) (View.ld x3 r2_22) (View.ld x2 r2_23) (View.ld x3 r2_23)) (k2_pay26 (View.ld x2 r2_24)) (k2_pay27 (View.ld x3 r2_24)) (View.ld x2 r2_25) (View.ld x3 r2_25) (View.ld x2 r2_26) (View.ld x3 r2_26)) (k2_pay29 (View.ld x2 r2_27)) (k2_pay30 (View.ld x3 r2_27)) (View.ld x2 r2_28) (View.ld x3 r2_28) (View.ld x2 r2_29) (View.ld x3 r2_29) -- `v439`
def k2_pay41 (x0 : Vec F S128x1 .i32) (x1 : Vec F S128x1 .i32) (x2 : Vec F S32x128 .i32) (x3 : Vec F S32x128 .i32) : IVec S1x128 32 :=
  k2_pay32 (View.ld x2 r2_30) -- `v441`
def k2_pay42 (x0 : Vec F S128x1 .i32) (x1 : Vec F S128x1 .i32) (x2 : Vec F S32x128 .i32) (x3 : Vec F S32x128 .i32) : IVec S128x128 32 :=
  k2_pay33 (View.ld x3 r2_30) -- `v444`

/-- Window 4's staging buffer after the body, from the input windows' blocks: its 1 store as pieces, LAST
    FIRST. -/
def out2_4 (x0 : Vec F S128x1 .i32) (x1 : Vec F S128x1 .i32) (x2 : Vec F S32x128 .i32) (x3 : Vec F S32x128 .i32) : Vec F S128x1 .i32 :=
  View.canon [⟨r2_0, k2_pay1 (k2_pay35 (k2_pay38 x0 x1 x2 x3) (k2_pay39 x0 x1 x2 x3) (k2_pay40 x0 x1 x2 x3) (k2_pay41 x0 x1 x2 x3) (k2_pay42 x0 x1 x2 x3) (View.ld x2 r2_31) (View.ld x3 r2_31) (View.ld x2 r2_32) (View.ld x3 r2_32)) (k2_pay36 (k2_pay38 x0 x1 x2 x3) (k2_pay39 x0 x1 x2 x3) (k2_pay40 x0 x1 x2 x3) (k2_pay41 x0 x1 x2 x3) (k2_pay42 x0 x1 x2 x3) (View.ld x2 r2_31) (View.ld x3 r2_31) (View.ld x2 r2_32) (View.ld x3 r2_32)) k2_pay37⟩]

/-- Its stores tile the buffer (checked by evaluation), so they cover it. -/
theorem cover2_4 (p0 : Vec F S128x1 .i32) (y : S128x1.Idx) :
    ∃ pc ∈ ([⟨r2_0, p0⟩] : List (View.Piece (Elt F) S128x1 .i32)), y ∈ pc.1.set :=
  View.cover_of_tiled [⟨r2_0, p0⟩] S128x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`*_eq_skeleton`), which `sl_exec` runs, through every part call. -/
theorem sound_kernel2 (c : Dev nD) (E : Set ℕ) (i : grid2.Coords) (arg1 : Memref sig .tc .vmem S128x1 .i32) (harg1 : arg1.IsWhole) (arg2 : Memref sig .tc .vmem S128x1 .i32) (harg2 : arg2.IsWhole) (arg3 : Memref sig .tc .vmem S32x128 .i32) (harg3 : arg3.IsWhole) (arg4 : Memref sig .tc .vmem S32x128 .i32) (harg4 : arg4.IsWhole) (arg5 : Memref sig .tc .vmem S128x1 .i32) (harg5 : arg5.IsWhole)
    (x0 : Vec F S128x1 .i32) (x1 : Vec F S128x1 .i32) (x2 : Vec F S32x128 .i32) (x3 : Vec F S32x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__loc_body i arg1 harg1 arg2 harg2 arg3 harg3 arg4 harg4 arg5 harg5) K := by
  simp only [cc2__loc_body_eq_skeleton]; unfold cc2__loc_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover2_4 _)).trans ?_
  rfl

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl
end Cert.KernelIdeal.Hand
-- ==== Proof.CombineRegion.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The combine kernel (fourth launch): each point writes the combine and dispatch blocks of its tokens. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 3 of @main: custom_call 3, `cc3__expand_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x1x256 := Rect.unit (s := S1x1x256) ![0, 0, 0] S1x1x256.size inb_S1x1x256_S1x1x256_0_0_0
abbrev r3_1 : Rect S64x64x256 := Rect.unit (s := S64x64x256) ![0, 0, 0] S64x64x256.size inb_S64x64x256_S64x64x256_0_0_0

/-! ## What the body leaves in each output window's buffer -/

/-- Window 2's staging buffer after the body, from the input windows' blocks: its 1 store as pieces, LAST
    FIRST. -/
def out3_2 (x0 : Vec F S1x1x256 .i32) (x1 : Vec F S1x1x256 .f32) : Vec F S64x64x256 .f32 :=
  View.canon [⟨r3_1, k3_pay2 (View.ld x0 r3_0) (View.ld x1 r3_0)⟩]

/-- Its stores tile the buffer (checked by evaluation), so they cover it. -/
theorem cover3_2 (p0 : Vec F S64x64x256 .f32) (y : S64x64x256.Idx) :
    ∃ pc ∈ ([⟨r3_1, p0⟩] : List (View.Piece (Elt F) S64x64x256 .f32)), y ∈ pc.1.set :=
  View.cover_of_tiled [⟨r3_1, p0⟩] S64x64x256.size (by rfl) y

/-- Window 3's staging buffer after the body, from the input windows' blocks: its 1 store as pieces, LAST
    FIRST. -/
def out3_3 (x0 : Vec F S1x1x256 .i32) (x1 : Vec F S1x1x256 .f32) : Vec F S64x64x256 .i32 :=
  View.canon [⟨r3_1, k3_pay3 (View.ld x0 r3_0)⟩]

/-- Its stores tile the buffer (checked by evaluation), so they cover it. -/
theorem cover3_3 (p0 : Vec F S64x64x256 .i32) (y : S64x64x256.Idx) :
    ∃ pc ∈ ([⟨r3_1, p0⟩] : List (View.Piece (Elt F) S64x64x256 .i32)), y ∈ pc.1.set :=
  View.cover_of_tiled [⟨r3_1, p0⟩] S64x64x256.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`*_eq_skeleton`), which `sl_exec` runs, through every part call. -/
theorem sound_kernel3 (c : Dev nD) (E : Set ℕ) (i : grid3.Coords) (arg1 : Memref sig .tc .vmem S1x1x256 .i32) (harg1 : arg1.IsWhole) (arg2 : Memref sig .tc .vmem S1x1x256 .f32) (harg2 : arg2.IsWhole) (arg3 : Memref sig .tc .vmem S64x64x256 .f32) (harg3 : arg3.IsWhole) (arg4 : Memref sig .tc .vmem S64x64x256 .i32) (harg4 : arg4.IsWhole)
    (x0 : Vec F S1x1x256 .i32) (x1 : Vec F S1x1x256 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3__expand_body i arg1 harg1 arg2 harg2 arg3 harg3 arg4 harg4) K := by
  simp only [cc3__expand_body_eq_skeleton]; unfold cc3__expand_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and each output's at `out3_W` of the input blocks; the invariant the
    class's; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Hand
-- ==== Proof.Run.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.GateRegion
public import proofs.«01_k».proof.Proof.RankRegion
public import proofs.«01_k».proof.Proof.LocRegion
public import proofs.«01_k».proof.Proof.CombineRegion
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The whole program: its four launches and the host stretches between them, from the launch memory to the end. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_c, main_v9, main_v10, main_v11, main_v12, main_v13, main_v14, main_v15, main_v16]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution ends, and at the end every unscoped buffer holds the
    last boundary's contents and every counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c)⟩, h.2⟩) (run m ρ)

end Cert.KernelIdeal.Hand
-- ==== Proof.BitsFrame.lean ====
module

public import proofs.«01_k».proof.Proof.Run
public import proofs.«01_k».proof.Proof.Gen.Kernel
public import proofs.«01_k».proof.Proof.Gen.KernelIdeal
public import proofs.«01_k».proof.Defs

/-! The frame of the program at the machine's own floats. The two printed programs are the same text under two names,
so the frame proved of the one (`Cert.KernelIdeal.Hand.frame`, at any floats) is the frame of the other. -/

@[expose] public section

namespace Cert.Kernel.Hand

open Idealize.ShloMosaic Idealize.ShloMosaic.TcCoe Idealize.ShloMosaic.Tactic

set_option maxRecDepth 100000

/-- The frame claim of the first program, spelt over the second program's names. -/
def frameOverIdealText : Prop :=
  ∀ (m : (ℓ : Loc Cert.KernelIdeal.nD Cert.KernelIdeal.τ Cert.KernelIdeal.sig) → Buf (Elt Bits) ℓ) (g : Dev Cert.KernelIdeal.nD → PrngReg), Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two spellings are one proposition. -/
theorem frame_text_eq : frameOverIdealText = Cert.quiescent_Kernel := by sl_kernel_rfl

/-- The frame claim of the first program. -/
theorem frame : Cert.quiescent_Kernel :=
  frame_text_eq ▸ (fun m g _ => Cert.KernelIdeal.Hand.frame (F := Bits) m g : frameOverIdealText)

end Cert.Kernel.Hand
-- ==== Proof.Counting.lean ====
/- Counting by chunks of 128: a column of counts that grows by one chunk's hits at a time. Both counting kernels (the
   rank of a token, its slot) are this with their own hit condition. -/
module

public import proofs.«01_k».proof.Proof.Gen.KernelIdeal.Skeleton
public import Idealize.ShloMosaic.Lib.Pointwise

@[expose] public section
set_option maxRecDepth 16384
noncomputable section
namespace Cert.KernelIdeal.Hand

open Cert.KernelIdeal.Gen
open Idealize.ShloMosaic Idealize.ShloMosaic.TcCoe Idealize.ShloMosaic.Tactic

/-- A sum of one-bit words is the number of the ones. -/
theorem fold_bits {n : ℕ} (s : Finset (Fin n)) (b : Fin n → BitVec 1) :
    s.fold IntOp.addi 0#32 (fun x => (b x).setWidth 32) = BitVec.ofNat 32 (∑ x ∈ s, if b x = 1#1 then 1 else 0) := by
  classical
  induction s using Finset.induction_on with
  | empty => simp
  | insert a s ha ih =>
    rw [Finset.fold_insert ha, ih, Finset.sum_insert ha, BitVec.ofNat_add]
    have : ∀ c : BitVec 1, c.setWidth 32 = BitVec.ofNat 32 (if c = 1#1 then 1 else 0) := by decide
    rw [this]; rfl

/-- Signed order of small words is the order of the numbers they hold. -/
theorem slt_nat {a b : ℕ} (ha : a < 2 ^ 31) (hb : b < 2 ^ 31) : (BitVec.ofNat 32 a).slt (BitVec.ofNat 32 b) = decide (a < b) := by
  have e : ∀ n : ℕ, n < 2 ^ 31 → (BitVec.ofNat 32 n).toInt = n := fun n hn => by
    rw [BitVec.toInt_eq_toNat_of_lt (by rw [BitVec.toNat_ofNat]; omega), BitVec.toNat_ofNat]
    omega
  rw [BitVec.slt, e a ha, e b hb]
  exact decide_eq_decide.mpr Int.ofNat_lt

/-- Small words are equal exactly when the numbers they hold are. -/
theorem ofNat_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

/-- A conjunction of two flags. -/
theorem and_flags (p q : Bool) : IntOp.andi (BitVec.ofBool p) (BitVec.ofBool q) = 1#1 ↔ p = true ∧ q = true := by
  revert p q; decide

/-- One flag, or two others together. -/
theorem or_and_flags (p q s : Bool) :
    IntOp.ori (BitVec.ofBool p) (IntOp.andi (BitVec.ofBool q) (BitVec.ofBool s)) = 1#1 ↔ p = true ∨ (q = true ∧ s = true) := by
  revert p q s; decide

/-- One chunk's hits added to the counts. -/
def tally (acc : IVec S128x1 32) (hit : IVec S128x128 1) : IVec S128x1 32 :=
  addi acc (shapeCast S128x1 (multiReductionI .add [1] S128 (extui 32 hit natLt_1_32) 0#32 reduces_S128x128_S128 rfl) shapeCasts_S128_S128x1)

theorem tally_apply (acc : IVec S128x1 32) (hit : IVec S128x128 1) (r : Fin 128) (z : Fin 1) :
    tally acc hit (ix2 r z) = acc (ix2 r z) + BitVec.ofNat 32 (∑ x : Fin 128, if hit (ix2 r x) = 1#1 then 1 else 0) := by
  rw [← fold_bits Finset.univ fun x => hit (ix2 r x)]
  pointwise [tally]
  rfl

/-- The counts after a list of chunks. -/
theorem foldl_tally_apply (hits : List (IVec S128x128 1)) (acc : IVec S128x1 32) (r : Fin 128) (z : Fin 1) :
    hits.foldl tally acc (ix2 r z)
      = acc (ix2 r z) + BitVec.ofNat 32 ((hits.map fun h => ∑ x : Fin 128, if h (ix2 r x) = 1#1 then 1 else 0).sum) := by
  induction hits generalizing acc with
  | nil => simp
  | cons h hs ih =>
    rw [List.foldl_cons, ih, tally_apply, List.map_cons, List.sum_cons, BitVec.ofNat_add, BitVec.add_assoc]

/-- The token at lane `x` of chunk `k`. -/
def tok (k : Fin 32) (x : Fin 128) : Fin 4096 := ⟨128 * k.val + x.val, by omega⟩

/-- A sum over the tokens is a sum over the chunks of sums over the lanes. -/
theorem sum_tok (f : Fin 4096 → ℕ) : ∑ k : Fin 32, ∑ x : Fin 128, f (tok k x) = ∑ u, f u := by
  rw [← Fintype.sum_prod_type']
  refine Fintype.sum_equiv (finProdFinEquiv (m := 32) (n := 128)) _ _ fun a => congrArg f (Fin.ext ?_)
  simp [tok, finProdFinEquiv, Nat.add_comm]

/-- The counts after 32 chunks whose hits are those of a relation on the tokens: how many tokens stand in it. -/
theorem count_tokens (hits : List (IVec S128x128 1)) (hl : hits.length = 32) (P : Fin 4096 → Prop) [DecidablePred P] (r : Fin 128)
    (h : ∀ (k : Fin 32) (x : Fin 128), (hits[k.val]'(by omega)) (ix2 r x) = 1#1 ↔ P (tok k x)) (z : Fin 1) :
    hits.foldl tally (broadcast S128x1 0#32) (ix2 r z) = BitVec.ofNat 32 (Finset.univ.filter P).card := by
  rw [foldl_tally_apply]
  have e : (hits.map fun h => ∑ x : Fin 128, if h (ix2 r x) = 1#1 then 1 else 0).sum = (Finset.univ.filter P).card := by
    rw [Finset.card_filter, ← sum_tok, ← List.sum_ofFn]
    congr 1
    refine List.ext_getElem (by simp [hl]) fun n h1 h2 => ?_
    have hn : n < 32 := by simpa [hl] using h1
    rw [List.getElem_map, List.getElem_ofFn]
    exact Finset.sum_congr rfl fun x _ => if_congr (h ⟨n, hn⟩ x) rfl rfl
  rw [e]
  show 0#32 + _ = _
  simp

end Cert.KernelIdeal.Hand
-- ==== Proof.Spec.lean ====
/- What is computed, in plain mathematics: the gates of a token, its expert, the order in which tokens are served, the
   slot a token takes at its expert. No program is named here. -/
module

public import Idealize.ShloMosaic.PureOps.Ideal.Laws

@[expose] public section
noncomputable section
namespace Cert.Route

open Idealize.ShloMosaic

/-- The largest of a token's 64 values. -/
def top (l : Fin 64 → EReal) : EReal := Finset.univ.fold max ⊥ l

/-- The softmax of a token's 64 logits. -/
def soft (l : Fin 64 → EReal) (e : Fin 64) : EReal :=
  Ideal.div (Ideal.exp (l e - top l)) (∑ k, Ideal.exp (l k - top l))

theorem top_eq_sup (l : Fin 64 → EReal) : top l = Finset.univ.sup l := rfl

theorem le_top (l : Fin 64 → EReal) (e : Fin 64) : l e ≤ top l := by
  rw [top_eq_sup]; exact Finset.le_sup (Finset.mem_univ e)

theorem exists_top (l : Fin 64 → EReal) : ∃ e, l e = top l := by
  rw [top_eq_sup]
  obtain ⟨e, _, h⟩ := Finset.exists_mem_eq_sup Finset.univ ⟨(0 : Fin 64), Finset.mem_univ _⟩ l
  exact ⟨e, h.symm⟩

/-- The places at which the largest value stands: there is one. -/
theorem tops_nonempty (l : Fin 64 → EReal) : (Finset.univ.filter fun e => l e = top l).Nonempty := by
  obtain ⟨e, h⟩ := exists_top l
  exact ⟨e, Finset.mem_filter.mpr ⟨Finset.mem_univ _, h⟩⟩

/-- The first place at which the largest value stands. -/
def pick (l : Fin 64 → EReal) : Fin 64 := (Finset.univ.filter fun e => l e = top l).min' (tops_nonempty l)

theorem pick_top (l : Fin 64 → EReal) : l (pick l) = top l :=
  (Finset.mem_filter.mp (Finset.min'_mem _ (tops_nonempty l))).2

theorem pick_le (l : Fin 64 → EReal) {e : Fin 64} (h : l e = top l) : pick l ≤ e :=
  Finset.min'_le (Finset.univ.filter fun e => l e = top l) e (Finset.mem_filter.mpr ⟨Finset.mem_univ e, h⟩)

/-- The first place is the only one that is largest and before every other such. -/
theorem eq_pick (l : Fin 64 → EReal) {e : Fin 64} (h : l e = top l) (hf : ∀ k, l k = top l → e ≤ k) : e = pick l :=
  le_antisymm (hf _ (pick_top l)) (pick_le l h)

/-- Token `u` is served before token `t`: a larger value, or the same value and an earlier token. -/
def Ahead (v : Fin 4096 → EReal) (u t : Fin 4096) : Prop := v t < v u ∨ (v u = v t ∧ u < t)

instance (v : Fin 4096 → EReal) (u t : Fin 4096) : Decidable (Ahead v u t) := Classical.dec _

/-- How many tokens are served before `t`. -/
def rank (v : Fin 4096 → EReal) (t : Fin 4096) : ℕ := (Finset.univ.filter fun u => Ahead v u t).card

/-- A token's place once the order is rolled by half its length. -/
def place (v : Fin 4096 → EReal) (t : Fin 4096) : ℕ := (rank v t + 2048) % 4096

/-- How many tokens of the same expert have an earlier place. -/
def seat (a : Fin 4096 → Fin 64) (p : Fin 4096 → ℕ) (t : Fin 4096) : ℕ :=
  (Finset.univ.filter fun u => a u = a t ∧ p u < p t).card

theorem seat_lt (a : Fin 4096 → Fin 64) (p : Fin 4096 → ℕ) (t : Fin 4096) : seat a p t < 4096 := by
  refine lt_of_lt_of_eq (Finset.card_lt_card (Finset.ssubset_univ_iff.mpr fun h => ?_)) (by simp)
  have := h ▸ Finset.mem_univ t
  exact lt_irrefl _ (Finset.mem_filter.mp this).2.2

theorem place_lt (v : Fin 4096 → EReal) (t : Fin 4096) : place v t < 4096 := Nat.mod_lt _ (by decide)

theorem ahead_irrefl (v : Fin 4096 → EReal) (t : Fin 4096) : ¬ Ahead v t t := fun h =>
  h.elim (lt_irrefl _) fun h => lt_irrefl _ h.2

theorem ahead_trans (v : Fin 4096 → EReal) {a b c : Fin 4096} (h : Ahead v a b) (h' : Ahead v b c) : Ahead v a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

theorem ahead_total (v : Fin 4096 → EReal) {a b : Fin 4096} (h : a ≠ b) : Ahead v a b ∨ Ahead v b a := by
  rcases lt_trichotomy (v a) (v b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem rank_lt (v : Fin 4096 → EReal) (t : Fin 4096) : rank v t < 4096 := by
  refine lt_of_lt_of_eq (Finset.card_lt_card (Finset.ssubset_univ_iff.mpr fun h => ?_)) (by simp)
  have := h ▸ Finset.mem_univ t
  exact ahead_irrefl v t (Finset.mem_filter.mp this).2

theorem rank_lt_of_ahead (v : Fin 4096 → EReal) {a b : Fin 4096} (h : Ahead v a b) : rank v a < rank v b := by
  refine Finset.card_lt_card ⟨fun u hu => ?_, fun hs => ?_⟩
  · exact Finset.mem_filter.mpr ⟨Finset.mem_univ _, ahead_trans v (Finset.mem_filter.mp hu).2 h⟩
  · exact ahead_irrefl v a (Finset.mem_filter.mp (hs (Finset.mem_filter.mpr ⟨Finset.mem_univ _, h⟩))).2

theorem rank_injective (v : Fin 4096 → EReal) : Function.Injective (rank v) := fun a b h => by
  by_contra hne
  rcases ahead_total v hne with h1 | h1
  · exact absurd h (rank_lt_of_ahead v h1).ne
  · exact absurd h (rank_lt_of_ahead v h1).ne'

theorem place_injective (v : Fin 4096 → EReal) : Function.Injective (place v) := fun a b h => by
  have ha := rank_lt v a
  have hb := rank_lt v b
  unfold place at h
  exact rank_injective v (by omega)

end Cert.Route
-- ==== Proof.LocValue.lean ====
/- What one block of the slot kernel computes: for each of its 128 tokens, how many tokens of the same expert have an
   earlier place, written as one number with the expert. -/
module

public import proofs.«01_k».proof.Proof.LocRegion
public import proofs.«01_k».proof.Proof.Counting
public import proofs.«01_k».proof.Proof.Spec
public import Idealize.ShloMosaic.Lib.Pipeline.ValueKit
public import Idealize.ShloMosaic.Lib.Pointwise

@[expose] public section
set_option maxRecDepth 16384
noncomputable section
namespace Cert.KernelIdeal.Hand

open Cert.KernelIdeal.Gen Cert.Route
open Idealize.ShloMosaic Idealize.ShloMosaic.TcCoe Idealize.ShloMosaic.Tactic

/-- One chunk's hits: the chunk's token (column) has the block's token's (row's) expert and an earlier place. -/
def hitLoc (p e : IVec S128x1 32) (prow erow : Vec Ideal S1x128 .i32) : IVec S128x128 1 :=
  andi (cmpi .eq (broadcastTo S128x128 (shapeCast S1x128 erow shapeCasts_S1x128_S1x128) broadcasts_S1x128_S128x128) (broadcastTo S128x128 e broadcasts_S128x1_S128x128))
    (cmpi .slt (broadcastTo S128x128 (shapeCast S1x128 prow shapeCasts_S1x128_S1x128) broadcasts_S1x128_S128x128) (broadcastTo S128x128 p broadcasts_S128x1_S128x128))

/-- The 32 chunks' hits. -/
def hitsLoc (p e : IVec S128x1 32) (x2 x3 : Vec Ideal S32x128 .i32) : List (IVec S128x128 1) :=
  [hitLoc p e (View.ld x2 r2_1) (View.ld x3 r2_1),
    hitLoc p e (View.ld x2 r2_2) (View.ld x3 r2_2),
    hitLoc p e (View.ld x2 r2_3) (View.ld x3 r2_3),
    hitLoc p e (View.ld x2 r2_4) (View.ld x3 r2_4),
    hitLoc p e (View.ld x2 r2_5) (View.ld x3 r2_5),
    hitLoc p e (View.ld x2 r2_6) (View.ld x3 r2_6),
    hitLoc p e (View.ld x2 r2_7) (View.ld x3 r2_7),
    hitLoc p e (View.ld x2 r2_8) (View.ld x3 r2_8),
    hitLoc p e (View.ld x2 r2_9) (View.ld x3 r2_9),
    hitLoc p e (View.ld x2 r2_10) (View.ld x3 r2_10),
    hitLoc p e (View.ld x2 r2_11) (View.ld x3 r2_11),
    hitLoc p e (View.ld x2 r2_12) (View.ld x3 r2_12),
    hitLoc p e (View.ld x2 r2_13) (View.ld x3 r2_13),
    hitLoc p e (View.ld x2 r2_14) (View.ld x3 r2_14),
    hitLoc p e (View.ld x2 r2_15) (View.ld x3 r2_15),
    hitLoc p e (View.ld x2 r2_16) (View.ld x3 r2_16),
    hitLoc p e (View.ld x2 r2_17) (View.ld x3 r2_17),
    hitLoc p e (View.ld x2 r2_18) (View.ld x3 r2_18),
    hitLoc p e (View.ld x2 r2_19) (View.ld x3 r2_19),
    hitLoc p e (View.ld x2 r2_20) (View.ld x3 r2_20),
    hitLoc p e (View.ld x2 r2_21) (View.ld x3 r2_21),
    hitLoc p e (View.ld x2 r2_22) (View.ld x3 r2_22),
    hitLoc p e (View.ld x2 r2_23) (View.ld x3 r2_23),
    hitLoc p e (View.ld x2 r2_24) (View.ld x3 r2_24),
    hitLoc p e (View.ld x2 r2_25) (View.ld x3 r2_25),
    hitLoc p e (View.ld x2 r2_26) (View.ld x3 r2_26),
    hitLoc p e (View.ld x2 r2_27) (View.ld x3 r2_27),
    hitLoc p e (View.ld x2 r2_28) (View.ld x3 r2_28),
    hitLoc p e (View.ld x2 r2_29) (View.ld x3 r2_29),
    hitLoc p e (View.ld x2 r2_30) (View.ld x3 r2_30),
    hitLoc p e (View.ld x2 r2_31) (View.ld x3 r2_31),
    hitLoc p e (View.ld x2 r2_32) (View.ld x3 r2_32)]

/-- What the block stores, from the counts `n`: with fewer than 64 before it, the token's expert and slot as one number from 1;
    otherwise 0. -/
def target (e n : IVec S128x1 32) : IVec S128x1 32 :=
  select (cmpi .slt n (broadcast S128x1 64#32)) (addi (addi (muli e (broadcast S128x1 64#32)) n) (broadcast S128x1 1#32)) (broadcast S128x1 0#32)

/-- The block's result is that of the counts over the 32 chunks. -/
theorem out2_4_eq (x0 x1 : Vec Ideal S128x1 .i32) (x2 x3 : Vec Ideal S32x128 .i32) :
    out2_4 x0 x1 x2 x3 = View.canon [⟨r2_0, target (k2_pay3 (View.ld x1 r2_0))
      ((hitsLoc (k2_pay2 (View.ld x0 r2_0)) (k2_pay3 (View.ld x1 r2_0)) x2 x3).foldl tally (broadcast S128x1 0#32))⟩] := by
  sl_kernel_rfl

theorem hitLoc_apply (p e : IVec S128x1 32) (prow erow : Vec Ideal S1x128 .i32) (r x : Fin 128) :
    hitLoc p e prow erow (ix2 r x) = 1#1 ↔ erow (ix2 0 x) = e (ix2 r 0) ∧ (prow (ix2 0 x)).slt (p (ix2 r 0)) = true := by
  pointwise [hitLoc]
  exact (and_flags _ _).trans (and_congr (by simp) Iff.rfl)

theorem hitsLoc_apply (p e : IVec S128x1 32) (x2 x3 : Vec Ideal S32x128 .i32) (r : Fin 128) (k : Fin 32) (x : Fin 128) :
    ((hitsLoc p e x2 x3)[k.val]'(k.isLt)) (ix2 r x) = 1#1 ↔ x3 (ix2 k x) = e (ix2 r 0) ∧ (x2 (ix2 k x)).slt (p (ix2 r 0)) = true := by
  fin_cases k <;> (refine (hitLoc_apply _ _ _ _ _ _).trans ?_; pointwise)

/-- The word of a token's target: its expert and slot as one number from 1, or 0 when its slot is beyond the 64. -/
def goal (e s : ℕ) : ℕ := if s < 64 then e * 64 + s + 1 else 0

/-- The block's result: with `a` the experts and `p` the places of all tokens, row `r` of block `b` holds its token's target. -/
theorem loc_block (x0 x1 : Vec Ideal S128x1 .i32) (x2 x3 : Vec Ideal S32x128 .i32)
    (a : Fin 4096 → Fin 64) (p : Fin 4096 → ℕ) (hp : ∀ u, p u < 4096) (b : Fin 32) (r : Fin 128)
    (h0 : x0 (ix2 r 0) = BitVec.ofNat 32 (p (tok b r))) (h1 : x1 (ix2 r 0) = BitVec.ofNat 32 (a (tok b r)).val)
    (h2 : ∀ k x, x2 (ix2 k x) = BitVec.ofNat 32 (p (tok k x))) (h3 : ∀ k x, x3 (ix2 k x) = BitVec.ofNat 32 (a (tok k x)).val) (z : Fin 1) :
    out2_4 x0 x1 x2 x3 (ix2 r z) = BitVec.ofNat 32 (goal (a (tok b r)).val (seat a p (tok b r))) := by
  have e1 : k2_pay3 (View.ld x1 r2_0) (ix2 r 0) = BitVec.ofNat 32 (a (tok b r)).val := by
    rw [← h1]; pointwise [k2_pay3]
  have e0 : k2_pay2 (View.ld x0 r2_0) (ix2 r 0) = BitVec.ofNat 32 (p (tok b r)) := by
    rw [← h0]; pointwise [k2_pay2]
  rw [out2_4_eq, View.canon_cons_unit_lit]
  swap; · decide
  pointwise [target]
  rw [count_tokens _ rfl (fun u => a u = a (tok b r) ∧ p u < p (tok b r)) r]
  · have hs := seat_lt a p (tok b r)
    obtain rfl : z = 0 := Subsingleton.elim _ _
    have hn : (Finset.univ.filter fun u => a u = a (tok b r) ∧ p u < p (tok b r)).card = seat a p (tok b r) := rfl
    have hc : IntOp.cmpi .slt (BitVec.ofNat 32 (seat a p (tok b r))) 64#32 = BitVec.ofBool (decide (seat a p (tok b r) < 64)) :=
      congrArg BitVec.ofBool (slt_nat (b := 64) (by omega) (by omega))
    rw [e1, hn, hc]
    unfold goal
    by_cases h : seat a p (tok b r) < 64
    · rw [if_pos h, decide_eq_true h]
      show BitVec.ofNat 32 _ * BitVec.ofNat 32 64 + BitVec.ofNat 32 _ + BitVec.ofNat 32 1 = _
      rw [← BitVec.ofNat_mul, ← BitVec.ofNat_add, ← BitVec.ofNat_add]
    · rw [if_neg h, decide_eq_false h]
      rfl
  · intro k x
    refine (hitsLoc_apply _ _ _ _ _ _ _).trans ?_
    have := hp (tok k x)
    have := hp (tok b r)
    rw [e0, e1, h2, h3, slt_nat (by omega) (by omega), ofNat_inj (by omega) (by omega), decide_eq_true_eq]
    exact and_congr Fin.val_inj Iff.rfl

end Cert.KernelIdeal.Hand
-- ==== Proof.CombineValue.lean ====
/- What one block of the combine kernel computes: at expert, seat and token, the token's gate where it has that expert and seat. -/
module

public import proofs.«01_k».proof.Proof.CombineRegion
public import proofs.«01_k».proof.Proof.LocValue
public import Idealize.ShloMosaic.Lib.Pipeline.ValueKit
public import Idealize.ShloMosaic.Lib.Pointwise

@[expose] public section
set_option maxRecDepth 16384
noncomputable section
namespace Cert.KernelIdeal.Hand

open Cert.KernelIdeal.Gen Cert.Route
open Idealize.ShloMosaic Idealize.ShloMosaic.TcCoe Idealize.ShloMosaic.Tactic

/-- The block's test: the token's word names this expert and this seat. -/
theorem test_apply (x : Vec Ideal S1x1x256 .i32) (a b : Fin 64) (c : Fin 256) (A : Fin 64) (s : ℕ) (hs : s < 4096)
    (hx : x (ix3 0 0 c) = BitVec.ofNat 32 (goal A.val s)) : k3_pay1 x (ix3 a b c) = BitVec.ofBool (decide (A = a ∧ s = b.val)) := by
  pointwise [k3_pay1]
  rw [hx]
  have e : IntOp.addi (IntOp.addi (IntOp.muli (BitVec.ofNat 32 a.val) 64#32) (BitVec.ofNat 32 b.val)) 1#32 = BitVec.ofNat 32 (a.val * 64 + b.val + 1) := by
    simp [IntOp.addi, IntOp.muli, BitVec.ofNat_add, BitVec.ofNat_mul]
  have hg : goal A.val s < 2 ^ 32 := by unfold goal; split <;> omega
  rw [e]
  show BitVec.ofBool (_ == _) = _
  congr 1
  rw [Bool.eq_iff_iff, beq_iff_eq, decide_eq_true_eq, ofNat_inj (by omega) hg, Fin.ext_iff]
  unfold goal
  split <;> omega

theorem combine_block (x0 : Vec Ideal S1x1x256 .i32) (x1 : Vec Ideal S1x1x256 .f32) (a b : Fin 64) (c : Fin 256) (A : Fin 64) (s : ℕ) (hs : s < 4096)
    (hx : x0 (ix3 0 0 c) = BitVec.ofNat 32 (goal A.val s)) :
    out3_2 x0 x1 (ix3 a b c) = if A = a ∧ s = b.val then x1 (ix3 0 0 c) else (0 : EReal) := by
  rw [show out3_2 x0 x1 = k3_pay2 x0 x1 by frame_out]
  pointwise [k3_pay2]
  rw [test_apply x0 a b c A s hs hx]
  by_cases h : A = a ∧ s = b.val <;> simp [h, Scalar.select]

theorem dispatch_block (x0 : Vec Ideal S1x1x256 .i32) (x1 : Vec Ideal S1x1x256 .f32) (a b : Fin 64) (c : Fin 256) (A : Fin 64) (s : ℕ) (hs : s < 4096)
    (hx : x0 (ix3 0 0 c) = BitVec.ofNat 32 (goal A.val s)) :
    out3_3 x0 x1 (ix3 a b c) = if A = a ∧ s = b.val then 1#32 else 0#32 := by
  rw [show out3_3 x0 x1 = k3_pay3 x0 by frame_out]
  pointwise [k3_pay3]
  rw [test_apply x0 a b c A s hs hx]
  by_cases h : A = a ∧ s = b.val <;> simp [h]

end Cert.KernelIdeal.Hand
-- ==== Proof.CombineArrays.lean ====
/- What the combine kernel's arrays hold after its launch. -/
module

public import proofs.«01_k».proof.Proof.CombineValue

@[expose] public section
set_option maxRecDepth 16384
noncomputable section
namespace Cert.KernelIdeal.Hand

open Cert.KernelIdeal.Gen Cert.Route
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

theorem idx3_0 : ∀ t : Fin cfg3.N, win3_0.index t = ![t.val, 0, 0] := (by decide +kernel : ∀ t : Fin grid3.N, _)
theorem idx3_1 : ∀ t : Fin cfg3.N, win3_1.index t = ![t.val, 0, 0] := (by decide +kernel : ∀ t : Fin grid3.N, _)
theorem idx3_2 : ∀ t : Fin cfg3.N, win3_2.index t = ![0, 0, t.val] := (by decide +kernel : ∀ t : Fin grid3.N, _)
theorem idx3_3 : ∀ t : Fin cfg3.N, win3_3.index t = ![0, 0, t.val] := (by decide +kernel : ∀ t : Fin grid3.N, _)

/-- The token at lane `x` of row `k`, the tokens laid out in 16 rows of 256. -/
def tok16 (k : Fin 16) (x : Fin 256) : Fin 4096 := ⟨256 * k.val + x.val, by omega⟩

/-- A token's gate at its expert and seat, zero elsewhere. -/
def spread (a : Fin 4096 → Fin 64) (s : Fin 4096 → ℕ) (v : Fin 4096 → EReal) (u : Fin 4096) (e k : Fin 64) : EReal :=
  if a u = e ∧ s u = k.val then v u else 0

/-- The word that marks a token's expert and seat. -/
def marked (a : Fin 4096 → Fin 64) (s : Fin 4096 → ℕ) (u : Fin 4096) (e k : Fin 64) : BitVec 32 :=
  if a u = e ∧ s u = k.val then 1#32 else 0#32

theorem read3_0 (c : Dev nD) (t : Fin cfg3.N) (x : Fin 256) (k : Fin 16) (hk : k.val = t.val) :
    iblk3 V c 0 t (ix3 0 0 x) = (V c main_v6 : Vec Ideal S16x1x256 .i32) (ix3 k 0 x) := by
  blk_ext [iblk3, idx3_0 t]

theorem read3_1 (c : Dev nD) (t : Fin cfg3.N) (x : Fin 256) (k : Fin 16) (hk : k.val = t.val) :
    iblk3 V c 1 t (ix3 0 0 x) = (V c main_v7 : Vec Ideal S16x1x256 .f32) (ix3 k 0 x) := by
  blk_ext [iblk3, idx3_1 t]

variable (c : Dev nD) (a : Fin 4096 → Fin 64) (s : Fin 4096 → ℕ) (hs : ∀ u, s u < 4096) (v : Fin 4096 → EReal)
  (h0 : ∀ (k : Fin 16) (x : Fin 256), (V c main_v6 : Vec Ideal S16x1x256 .i32) (ix3 k 0 x) = BitVec.ofNat 32 (goal (a (tok16 k x)).val (s (tok16 k x))))
  (h1 : ∀ (k : Fin 16) (x : Fin 256), (V c main_v7 : Vec Ideal S16x1x256 .f32) (ix3 k 0 x) = v (tok16 k x))

include hs h0 h1 in
theorem combine_arr :
    (dat3 V c).arrAt 2 cfg3.N = fun i : S64x64x4096.Idx => spread a s v (i 2) (i 0) (i 1) := by
  refine (dat3 V c).arrAt_eq_of_covers 2 _ (by decide +kernel) fun t hf y => ?_
  blk_simp
  rw [after3_2]
  have hN : t.val < 16 := lt_of_lt_of_eq t.isLt N_3
  refine (congrArg (out3_2 (iblk3 V c 0 t) (iblk3 V c 1 t)) (ix3_eta (n0 := 64) (n1 := 64) (n2 := 256) y).symm).trans ?_
  refine (combine_block _ _ (y 0 : Fin 64) (y 1 : Fin 64) (y 2 : Fin 256) (a (tok16 ⟨t.val, hN⟩ (y 2))) (s (tok16 ⟨t.val, hN⟩ (y 2))) (hs _) ?_).trans ?_
  · exact (read3_0 V c t (y 2) ⟨t.val, hN⟩ rfl).trans (h0 _ _)
  · have e2 : ((win3_2.blk t).view.emb y 2 : Fin 4096) = tok16 ⟨t.val, hN⟩ (y 2) := by
      refine Fin.ext (Eq.trans (b := t.val * 256 + (y 2).val) ?_ (by show _ = 256 * t.val + (y 2).val; omega))
      blk_simp [idx3_2 t]
    have e0 : ((win3_2.blk t).view.emb y 0 : Fin 64) = y 0 := Fin.ext (by blk_simp [idx3_2 t])
    have e1 : ((win3_2.blk t).view.emb y 1 : Fin 64) = y 1 := Fin.ext (by blk_simp [idx3_2 t])
    have ev : iblk3 V c 1 t (ix3 0 0 (y 2 : Fin 256)) = v (tok16 ⟨t.val, hN⟩ (y 2)) :=
      (read3_1 V c t (y 2) ⟨t.val, hN⟩ rfl).trans (h1 _ _)
    rw [e2, e0, e1, ev]
    rfl

include hs h0 in
theorem dispatch_arr :
    (dat3 V c).arrAt 3 cfg3.N = fun i : S64x64x4096.Idx => marked a s (i 2) (i 0) (i 1) := by
  refine (dat3 V c).arrAt_eq_of_covers 3 _ (by decide +kernel) fun t hf y => ?_
  blk_simp
  rw [after3_3]
  have hN : t.val < 16 := lt_of_lt_of_eq t.isLt N_3
  refine (congrArg (out3_3 (iblk3 V c 0 t) (iblk3 V c 1 t)) (ix3_eta (n0 := 64) (n1 := 64) (n2 := 256) y).symm).trans ?_
  refine (dispatch_block _ _ (y 0 : Fin 64) (y 1 : Fin 64) (y 2 : Fin 256) (a (tok16 ⟨t.val, hN⟩ (y 2))) (s (tok16 ⟨t.val, hN⟩ (y 2))) (hs _) ?_).trans ?_
  · exact (read3_0 V c t (y 2) ⟨t.val, hN⟩ rfl).trans (h0 _ _)
  · have e2 : ((win3_3.blk t).view.emb y 2 : Fin 4096) = tok16 ⟨t.val, hN⟩ (y 2) := by
      refine Fin.ext (Eq.trans (b := t.val * 256 + (y 2).val) ?_ (by show _ = 256 * t.val + (y 2).val; omega))
      blk_simp [idx3_3 t]
    have e0 : ((win3_3.blk t).view.emb y 0 : Fin 64) = y 0 := Fin.ext (by blk_simp [idx3_3 t])
    have e1 : ((win3_3.blk t).view.emb y 1 : Fin 64) = y 1 := Fin.ext (by blk_simp [idx3_3 t])
    rw [e2, e0, e1]
    rfl

end Cert.KernelIdeal.Hand
-- ==== Proof.HostReads.lean ====
/- What the kernel's host operations between the launches hold, read at an index. -/
module

public import proofs.«01_k».proof.Proof.Run
public import proofs.«01_k».proof.Proof.CombineArrays
public import Idealize.ShloMosaic.Lib.StableHlo.ReadAt
public import Idealize.ShloMosaic.Lib.Pointwise

@[expose] public section
set_option maxRecDepth 16384
noncomputable section
namespace Cert.KernelIdeal.Hand

open Cert.KernelIdeal.Gen Cert.Route
open Idealize.ShloMosaic Idealize.ShloMosaic.TcCoe Idealize.ShloMosaic.Tactic

variable (X : Valuation τ sig (Elt Ideal))

theorem read_v1 (k : Fin 32) (x : Fin 128) :
    (StableHlo.after hostOps1 X main_v1 : Vec Ideal S32x128 .f32) (ix2 k x) = (X main_v0_0 : Vec Ideal S4096x1 .f32) (ix2 (tok k x) 0) := by
  after_reads_at
  exact congrArg (fun i => (X main_v0_0 : Vec Ideal S4096x1 .f32) (ix2 i 0)) (Fin.ext (by show k.val * 128 + x.val = 128 * k.val + x.val; omega))

theorem read_v3 (k : Fin 32) (x : Fin 128) :
    (StableHlo.after hostOps2 X main_v3 : Vec Ideal S32x128 .i32) (ix2 k x) = (X main_v2_0 : Vec Ideal S4096x1 .i32) (ix2 (tok k x) 0) := by
  after_reads_at
  exact congrArg (fun i => (X main_v2_0 : Vec Ideal S4096x1 .i32) (ix2 i 0)) (Fin.ext (by show k.val * 128 + x.val = 128 * k.val + x.val; omega))

theorem read_v4 (k : Fin 32) (x : Fin 128) :
    (StableHlo.after hostOps2 X main_v4 : Vec Ideal S32x128 .i32) (ix2 k x) = (X main_v0_1 : Vec Ideal S4096x1 .i32) (ix2 (tok k x) 0) := by
  after_reads_at
  exact congrArg (fun i => (X main_v0_1 : Vec Ideal S4096x1 .i32) (ix2 i 0)) (Fin.ext (by show k.val * 128 + x.val = 128 * k.val + x.val; omega))

theorem read_v6 (k : Fin 16) (x : Fin 256) :
    (StableHlo.after hostOps3 X main_v6 : Vec Ideal S16x1x256 .i32) (ix3 k 0 x) = (X main_v5 : Vec Ideal S4096x1 .i32) (ix2 (tok16 k x) 0) := by
  after_reads_at
  exact congrArg (fun i => (X main_v5 : Vec Ideal S4096x1 .i32) (ix2 i 0)) (Fin.ext (by show k.val * 256 + x.val = 256 * k.val + x.val; omega))

theorem read_v7 (k : Fin 16) (x : Fin 256) :
    (StableHlo.after hostOps3 X main_v7 : Vec Ideal S16x1x256 .f32) (ix3 k 0 x) = (X main_v0_0 : Vec Ideal S4096x1 .f32) (ix2 (tok16 k x) 0) := by
  after_reads_at
  exact congrArg (fun i => (X main_v0_0 : Vec Ideal S4096x1 .f32) (ix2 i 0)) (Fin.ext (by show k.val * 256 + x.val = 256 * k.val + x.val; omega))

theorem read_v14 :
    (StableHlo.after hostOps4 X main_v14 : Vec Ideal S_ .f32) ix0 = (X main_v2_1 : Vec Ideal S8x128 .f32) (ix2 0 0) := by
  after_reads_at

theorem read_v15 (u : Fin 4096) (e k : Fin 64) :
    (StableHlo.after hostOps4 X main_v15 : Vec Ideal S4096x64x64 .f32) (ix3 u e k) = (X main_v8_0 : Vec Ideal S64x64x4096 .f32) (ix3 e k u) := by
  after_reads_at

theorem read_v16 (u : Fin 4096) (e k : Fin 64) :
    (StableHlo.after hostOps4 X main_v16 : Vec Ideal S4096x64x64 .i1) (ix3 u e k)
      = IntOp.cmpi .ne ((X main_v8_1 : Vec Ideal S64x64x4096 .i32) (ix3 e k u)) 0#32 := by
  after_reads_at
  show cmpi CmpIPredicate.ne (X (Proc.tc.devRef main_v8_1)) (broadcastInDim S64x64x4096 ![] bcast_S_S64x64x4096 (constantI S_ 32 0#32)) (ix3 e k u) = _
  pointwise

end Cert.KernelIdeal.Hand
-- ==== Proof.Words.lean ====
/- Small facts both programs meet: the least place as a word, a counted flag as a number, the gates of a token. -/
module

public import proofs.«01_k».proof.Proof.Spec
public import Idealize.ShloMosaic.Lib.Pointwise
public import Idealize.ShloMosaic.Lib.WordCmp

@[expose] public section
set_option maxRecDepth 16384
noncomputable section
namespace Cert.Route

open Idealize.ShloMosaic

/-- A token's gates: the softmax of its products with the experts' columns. -/
def gates (x : (⟨2, ![4096, 2048]⟩ : Shape).Idx → EReal) (w : (⟨2, ![2048, 64]⟩ : Shape).Idx → EReal) (t : Fin 4096) : Fin 64 → EReal :=
  soft fun e => ∑ k : Fin 2048, x (ix2 t k) * w (ix2 k e)

theorem bot_f32 : Ideal.ofBits .f32 0xFF800000#32 = ⊥ := by simp [Ideal.ofBits, Ideal.ieee]

/-- Two words in signed order, when both are small. -/
theorem minsi_nat {a b : ℕ} (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    rw [BitVec.toInt_eq_toNat_of_lt (by rw [BitVec.toNat_ofNat]; omega), BitVec.toNat_ofNat]
    omega
  unfold IntOp.minsi
  rw [BitVec.slt, e a ha, e b hb]
  by_cases h : a < b
  · rw [if_pos (by simpa using h), min_eq_left h.le]
  · rw [if_neg (by simpa using h), min_eq_right (not_lt.mp h)]

theorem fold_minsi {ι : Type} (s : Finset ι) (a : ℕ) (ha : a < 2 ^ 31) (f : ι → ℕ) (hf : ∀ i, f i < 2 ^ 31) :
    s.fold IntOp.minsi (BitVec.ofNat 32 a) (fun i => BitVec.ofNat 32 (f i)) = BitVec.ofNat 32 (s.fold min a f) := by
  classical
  induction s using Finset.induction_on with
  | empty => simp
  | insert i s hi ih =>
    have : s.fold min a f < 2 ^ 31 := lt_of_le_of_lt ((Finset.fold_min_le (f := f) (b := a) (s := s) a).mpr (Or.inl le_rfl)) ha
    rw [Finset.fold_insert hi, Finset.fold_insert hi, ih, minsi_nat (hf i) this]

/-- The least place at which the largest value stands, found among words. -/
theorem pick_word (l : Fin 64 → EReal) :
    (Finset.univ.fold IntOp.minsi 2147483647#32 fun e : Fin 64 => if l e = top l then BitVec.ofNat 32 e.val else 64#32)
      = BitVec.ofNat 32 (pick l).val := by
  classical
  have e : (fun e : Fin 64 => if l e = top l then BitVec.ofNat 32 e.val else 64#32)
      = fun e : Fin 64 => BitVec.ofNat 32 (if l e = top l then e.val else 64) := by
    funext e; split <;> rfl
  rw [e, show (2147483647#32 : BitVec 32) = BitVec.ofNat 32 2147483647 from rfl, fold_minsi _ _ (by omega) _ fun i => by split <;> omega]
  congr 1
  apply le_antisymm
  · exact (Finset.fold_min_le _).mpr (Or.inr ⟨pick l, Finset.mem_univ _, by rw [if_pos (pick_top l)]⟩)
  · refine (Finset.le_fold_min _).mpr ⟨by have := (pick l).isLt; omega, fun k _ => ?_⟩
    split
    · rename_i h; exact pick_le l h
    · have := (pick l).isLt; omega

/-- A comparison of two small words, as a number. -/
theorem sitofp_eq {a b : ℕ} (ha : a < 2 ^ 32) (hb : b < 2 ^ 32) :
    FloatOps.sitofp (F := Ideal) .f32 (BitVec.setWidth 32 (IntOp.cmpi .eq (BitVec.ofNat 32 a) (BitVec.ofNat 32 b))) = if a = b then (1 : EReal) else 0 := by
  have h : BitVec.ofNat 32 a = BitVec.ofNat 32 b ↔ a = b := by
    refine ⟨fun h => ?_, fun h => h ▸ rfl⟩
    have := congrArg BitVec.toNat h
    rwa [BitVec.toNat_ofNat, BitVec.toNat_ofNat, Nat.mod_eq_of_lt ha, Nat.mod_eq_of_lt hb] at this
  by_cases hab : a = b
  · subst hab
    simp [IntOp.cmpi, FloatOps.sitofp]
  · have : BitVec.ofNat 32 a ≠ BitVec.ofNat 32 b := fun e => hab (h.mp e)
    have hb' : (BitVec.ofNat 32 a == BitVec.ofNat 32 b) = false := beq_eq_false_iff_ne.mpr this
    simp [IntOp.cmpi, FloatOps.sitofp, hab, hb']

end Cert.Route
-- ==== Proof.GateValue.lean ====
/- What one block of the gate kernel computes: the gates of its 1024 tokens, the largest one, the expert that holds it, and the columns' sums. -/
module

public import proofs.«01_k».proof.Proof.GateRegion
public import proofs.«01_k».proof.Proof.Words
public import Idealize.ShloMosaic.Lib.Pipeline.ValueKit
public import Idealize.ShloMosaic.Lib.Pointwise

@[expose] public section
set_option maxRecDepth 16384
noncomputable section
namespace Cert.KernelIdeal.Hand

open Cert.KernelIdeal.Gen Cert.Route
open Idealize.ShloMosaic Idealize.ShloMosaic.TcCoe Idealize.ShloMosaic.Tactic

/-- The gates of row `r` of a block. -/
def rowGates (x : Vec Ideal S1024x2048 .f32) (w : Vec Ideal S2048x64 .f32) (r : Fin 1024) : Fin 64 → EReal :=
  soft fun e => ∑ k : Fin 2048, x (ix2 r k) * w (ix2 k e)

theorem pay3_apply (x : Vec Ideal S1024x2048 .f32) (w : Vec Ideal S2048x64 .f32) (r : Fin 1024) (e : Fin 64) :
    k0_pay3 x w (ix2 r e) = rowGates x w r e := by
  pointwise [k0_pay3]
  rw [bot_f32]
  rfl

theorem pay4_apply (x : Vec Ideal S1024x2048 .f32) (w : Vec Ideal S2048x64 .f32) (r : Fin 1024) (z : Fin 1) :
    k0_pay4 x w (ix2 r z) = top (rowGates x w r) := by
  pointwise [k0_pay4]
  rw [bot_f32]
  simp only [pay3_apply]
  rfl

theorem pay5_apply (x : Vec Ideal S1024x2048 .f32) (w : Vec Ideal S2048x64 .f32) (r : Fin 1024) (z : Fin 1) :
    k0_pay5 x w (ix2 r z) = BitVec.ofNat 32 (pick (rowGates x w r)).val := by
  pointwise [k0_pay5]
  simp only [pay3_apply, pay4_apply]
  exact pick_word _

/-- Row 0 of the statistics' increment: the columns' sums, nothing past the 64 experts. -/
theorem pay6_row0 (x : Vec Ideal S1024x2048 .f32) (w : Vec Ideal S2048x64 .f32) (e : Fin 128) :
    k0_pay6 x w (ix2 0 e) = if h : e.val < 64 then ∑ r : Fin 1024, rowGates x w r ⟨e.val, h⟩ else 0 := by
  pointwise [k0_pay6]
  simp only [pay3_apply]

/-- Row 1 of the statistics' increment: how many rows pick each expert. -/
theorem pay6_row1 (x : Vec Ideal S1024x2048 .f32) (w : Vec Ideal S2048x64 .f32) (e : Fin 128) :
    k0_pay6 x w (ix2 1 e) = if e.val < 64 then ∑ r : Fin 1024, (if e.val = (pick (rowGates x w r)).val then (1 : EReal) else 0) else 0 := by
  pointwise [k0_pay6]
  simp only [pay5_apply]
  split
  · exact Finset.sum_congr rfl fun r _ => sitofp_eq (by omega) (by omega)
  · rfl

variable (V : (c : Dev nD) → (b : Ref sig .tc) → Buf (Elt Ideal) ((c : Thread nD τ).loc b))

/-- Both cases leave the same in the row outputs. -/
theorem outs_fst (c : Dev nD) (t : Fin cfg0.N) : (outsAt0 V c t.val t.isLt).1 = k0_pay4 (iblk0 V c 0 t) (iblk0 V c 1 t) := by
  by_cases h : t.val % 4 = 0
  · rw [outsAt0_A V c t h]; frame_out
  · rw [outsAt0_B V c t h]; frame_out

theorem outs_snd (c : Dev nD) (t : Fin cfg0.N) : (outsAt0 V c t.val t.isLt).2.1 = k0_pay5 (iblk0 V c 0 t) (iblk0 V c 1 t) := by
  by_cases h : t.val % 4 = 0
  · rw [outsAt0_A V c t h]; frame_out
  · rw [outsAt0_B V c t h]; frame_out

/-- The statistics at the last point: the sum of the increments. -/
theorem stats_last (c : Dev nD) (t : Fin cfg0.N) (ht : t.val + 1 = cfg0.N) (j : S8x128.Idx) :
    (outsAt0 V c t.val t.isLt).2.2 j = 0 + ∑ p : Fin cfg0.N, k0_pay6 (iblk0 V c 0 p) (iblk0 V c 1 p) j := by
  refine Pipeline.eq_sum_fin_of_reset_step_apply_last (M := EReal) (fun n h => (outsAt0 V c n h).2.2) 4 (fun _ => 0) (fun p => k0_pay6 (iblk0 V c 0 p) (iblk0 V c 1 p)) (fun t h j => ?_) (fun t h j => ?_) (by decide) t ht j
  · rw [outsAt0_A V c t h]; frame_out
    pointwise [k0_pay2, k0_pay1]
  · rw [outsAt0_B V c t h]; frame_out
    pointwise [k0_pay2]

end Cert.KernelIdeal.Hand
-- ==== Proof.GateArrays.lean ====
/- What the gate kernel's arrays hold after its launch. -/
module

public import proofs.«01_k».proof.Proof.GateValue

@[expose] public section
set_option maxRecDepth 16384
noncomputable section
namespace Cert.KernelIdeal.Hand

open Cert.KernelIdeal.Gen Cert.Route
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)

/-- The tokens' gates, from the arrays the launch finds. -/
def gatesAt (c : Dev nD) (t : Fin 4096) : Fin 64 → EReal := gates (V c main_arg0) (V c main_arg1) t

/-- Row `r` of block `t` is token `1024 * t + r`. -/
theorem rowGates_block (c : Dev nD) (t : Fin cfg0.N) (r : Fin 1024) (u : Fin 4096) (hu : u.val = t.val * 1024 + r.val) :
    rowGates (iblk0 V c 0 t) (iblk0 V c 1 t) r = gatesAt V c u := by
  unfold rowGates gatesAt gates
  congr 1
  funext e
  refine Finset.sum_congr rfl fun k _ => ?_
  congr 1 <;> blk_ext [iblk0, idx0_0 t, idx0_1 t]

theorem gate_top (c : Dev nD) : (dat0 V c).arrAt 2 cfg0.N = fun i : S4096x1.Idx => top (gatesAt V c (i 0)) := by
  refine (dat0 V c).arrAt_eq_of_covers 2 _ (by decide +kernel) fun t hf y => ?_
  blk_simp
  rw [after0_2, outs_fst]
  refine (congrArg (k0_pay4 (iblk0 V c 0 t) (iblk0 V c 1 t)) (ix2_eta (n0 := 1024) (n1 := 1) y).symm).trans ?_
  refine (pay4_apply _ _ _ _).trans (congrArg top (rowGates_block V c t _ _ ?_))
  blk_simp [idx0_2 t]

theorem gate_pick (c : Dev nD) : (dat0 V c).arrAt 3 cfg0.N = fun i : S4096x1.Idx => BitVec.ofNat 32 (pick (gatesAt V c (i 0))).val := by
  refine (dat0 V c).arrAt_eq_of_covers 3 _ (by decide +kernel) fun t hf y => ?_
  blk_simp
  rw [after0_3, outs_snd]
  refine (congrArg (k0_pay5 (iblk0 V c 0 t) (iblk0 V c 1 t)) (ix2_eta (n0 := 1024) (n1 := 1) y).symm).trans ?_
  refine (pay5_apply _ _ _ _).trans (congrArg (fun l => BitVec.ofNat 32 (pick l).val) (rowGates_block V c t _ _ ?_))
  blk_simp [idx0_3 t]

/-- The statistics tile holds the sum of the four increments. -/
theorem stats_tile (c : Dev nD) : (dat0 V c).arrAt 4 cfg0.N = fun i : S8x128.Idx => (0 : EReal) + ∑ p : Fin cfg0.N, k0_pay6 (iblk0 V c 0 p) (iblk0 V c 1 p) i := by
  refine (dat0 V c).arrAt_eq_of_after_last 4 t0_3 (by decide +kernel) _ fun j => ?_
  blk_simp
  rw [after0_4]
  refine (stats_last V c t0_3 rfl _).trans ?_
  blk_simp

/-- Summing over the four blocks and their rows is summing over the tokens. -/
theorem sum_blocks {M : Type} [AddCommMonoid M] (f : Fin 4096 → M) (g : Fin cfg0.N → Fin 1024 → M)
    (h : ∀ (p : Fin cfg0.N) (r : Fin 1024) (u : Fin 4096), u.val = p.val * 1024 + r.val → g p r = f u) :
    ∑ p : Fin cfg0.N, ∑ r : Fin 1024, g p r = ∑ u, f u := by
  rw [← Fintype.sum_prod_type']
  refine Fintype.sum_equiv (((finCongr N_0).prodCongr (Equiv.refl (Fin 1024))).trans (finProdFinEquiv (m := 4) (n := 1024))) _ _ fun a => h _ _ _ ?_
  simp [finProdFinEquiv]
  ring

theorem stats_row0 (c : Dev nD) (e : Fin 128) :
    (dat0 V c).arrAt 4 cfg0.N (ix2 0 e) = if h : e.val < 64 then ∑ u : Fin 4096, gatesAt V c u ⟨e.val, h⟩ else (0 : EReal) := by
  rw [stats_tile]
  refine (zero_add _).trans ((Finset.sum_congr rfl fun p _ => pay6_row0 _ _ _).trans ?_)
  split
  · exact sum_blocks _ _ fun p r u hu => congrFun (rowGates_block V c p r u hu) _
  · simp

theorem stats_row1 (c : Dev nD) (e : Fin 128) :
    (dat0 V c).arrAt 4 cfg0.N (ix2 1 e)
      = if e.val < 64 then ∑ u : Fin 4096, (if e.val = (pick (gatesAt V c u)).val then (1 : EReal) else 0) else (0 : EReal) := by
  rw [stats_tile]
  refine (zero_add _).trans ((Finset.sum_congr rfl fun p _ => pay6_row1 _ _ _).trans ?_)
  split
  · exact sum_blocks _ _ fun p r u hu => congrArg (fun l => if e.val = (pick l).val then (1 : EReal) else 0) (rowGates_block V c p r u hu)
  · simp

end Cert.KernelIdeal.Hand
-- ==== Proof.RankValue.lean ====
/- What one block of the rank kernel computes: for each of its 128 tokens, how many tokens are served before it. -/
module

public import proofs.«01_k».proof.Proof.RankRegion
public import proofs.«01_k».proof.Proof.Counting
public import proofs.«01_k».proof.Proof.Spec
public import Idealize.ShloMosaic.Lib.Pipeline.ValueKit
public import Idealize.ShloMosaic.Lib.Pointwise
public import Idealize.ShloMosaic.Lib.WordCmp

@[expose] public section
set_option maxRecDepth 16384
noncomputable section
namespace Cert.KernelIdeal.Hand

open Cert.KernelIdeal.Gen Cert.Route
open Idealize.ShloMosaic Idealize.ShloMosaic.TcCoe Idealize.ShloMosaic.Tactic

/-- One chunk's hits: the chunk's token (column) is served before the block's token (row). -/
def hitRank (v : FVec Ideal S128x1 .f32) (t : IVec S128x1 32) (o : BitVec 32) (row : Vec Ideal S1x128 .f32) : IVec S128x128 1 :=
  ori (cmpf .ogt (broadcastTo S128x128 (shapeCast S1x128 row shapeCasts_S1x128_S1x128) broadcasts_S1x128_S128x128) (broadcastTo S128x128 v broadcasts_S128x1_S128x128))
    (andi (cmpf .oeq (broadcastTo S128x128 (shapeCast S1x128 row shapeCasts_S1x128_S1x128) broadcasts_S1x128_S128x128) (broadcastTo S128x128 v broadcasts_S128x1_S128x128))
      (cmpi .slt (broadcastTo S128x128 (addi (iota .tc S1x128 32 [1] iota_S1x128_d1_w32) (broadcast S1x128 o)) broadcasts_S1x128_S128x128)
        (broadcastTo S128x128 t broadcasts_S128x1_S128x128)))

/-- The 32 chunks' hits. -/
def hitsRank (v : FVec Ideal S128x1 .f32) (t : IVec S128x1 32) (x1 : Vec Ideal S32x128 .f32) : List (IVec S128x128 1) :=
  [hitRank v t 0#32 (View.ld x1 r1_1),
    hitRank v t 128#32 (View.ld x1 r1_2),
    hitRank v t 256#32 (View.ld x1 r1_3),
    hitRank v t 384#32 (View.ld x1 r1_4),
    hitRank v t 512#32 (View.ld x1 r1_5),
    hitRank v t 640#32 (View.ld x1 r1_6),
    hitRank v t 768#32 (View.ld x1 r1_7),
    hitRank v t 896#32 (View.ld x1 r1_8),
    hitRank v t 1024#32 (View.ld x1 r1_9),
    hitRank v t 1152#32 (View.ld x1 r1_10),
    hitRank v t 1280#32 (View.ld x1 r1_11),
    hitRank v t 1408#32 (View.ld x1 r1_12),
    hitRank v t 1536#32 (View.ld x1 r1_13),
    hitRank v t 1664#32 (View.ld x1 r1_14),
    hitRank v t 1792#32 (View.ld x1 r1_15),
    hitRank v t 1920#32 (View.ld x1 r1_16),
    hitRank v t 2048#32 (View.ld x1 r1_17),
    hitRank v t 2176#32 (View.ld x1 r1_18),
    hitRank v t 2304#32 (View.ld x1 r1_19),
    hitRank v t 2432#32 (View.ld x1 r1_20),
    hitRank v t 2560#32 (View.ld x1 r1_21),
    hitRank v t 2688#32 (View.ld x1 r1_22),
    hitRank v t 2816#32 (View.ld x1 r1_23),
    hitRank v t 2944#32 (View.ld x1 r1_24),
    hitRank v t 3072#32 (View.ld x1 r1_25),
    hitRank v t 3200#32 (View.ld x1 r1_26),
    hitRank v t 3328#32 (View.ld x1 r1_27),
    hitRank v t 3456#32 (View.ld x1 r1_28),
    hitRank v t 3584#32 (View.ld x1 r1_29),
    hitRank v t 3712#32 (View.ld x1 r1_30),
    hitRank v t 3840#32 (View.ld x1 r1_31),
    hitRank v t 3968#32 (View.ld x1 r1_32)]

/-- The block's result is the counts over the 32 chunks, rolled. -/
theorem out1_3_eq (i : grid1.Coords) (x0 : Vec Ideal S128x1 .f32) (x1 : Vec Ideal S32x128 .f32) (x2 : Vec Ideal S8x128 .f32) :
    out1_3 i x0 x1 x2 = View.canon [⟨r1_0, k1_pay1 ((hitsRank (k1_pay3 (View.ld x0 r1_0)) (k1_pay4 i) x1).foldl tally (broadcast S128x1 0#32))⟩] := by
  sl_kernel_rfl

theorem hitRank_apply (v : FVec Ideal S128x1 .f32) (t : IVec S128x1 32) (o : BitVec 32) (row : Vec Ideal S1x128 .f32) (r x : Fin 128) :
    hitRank v t o row (ix2 r x) = 1#1
      ↔ v (ix2 r 0) < row (ix2 0 x) ∨ (row (ix2 0 x) = v (ix2 r 0) ∧ (BitVec.ofNat 32 x.val + o).slt (t (ix2 r 0)) = true) := by
  pointwise [hitRank]
  exact (or_and_flags _ _ _).trans (by simp [IntOp.addi])

/-- The block's token at row `r`, as a word. -/
theorem tid_apply (i : grid1.Coords) (r : Fin 128) (z : Fin 1) : k1_pay4 i (ix2 r z) = BitVec.ofNat 32 (128 * (i 0).val + r.val) := by
  pointwise [k1_pay4]
  rw [Nat.add_comm, Nat.mul_comm, BitVec.ofNat_add, BitVec.ofNat_mul]
  rfl

/-- What hit `k` of the list says: the value at lane `x` of row `k` against the block's own. -/
theorem hitsRank_apply (v : FVec Ideal S128x1 .f32) (t : IVec S128x1 32) (x1 : Vec Ideal S32x128 .f32) (r : Fin 128) (k : Fin 32) (x : Fin 128) :
    ((hitsRank v t x1)[k.val]'(k.isLt)) (ix2 r x) = 1#1
      ↔ v (ix2 r 0) < x1 (ix2 k x)
        ∨ (x1 (ix2 k x) = v (ix2 r 0) ∧ (BitVec.ofNat 32 x.val + BitVec.ofNat 32 (128 * k.val)).slt (t (ix2 r 0)) = true) := by
  fin_cases k <;> (refine (hitRank_apply _ _ _ _ _ _).trans ?_; pointwise)

/-- The block's result: with `v` the values of all tokens, row `r` of block `i` holds its token's place. -/
theorem rank_block (i : grid1.Coords) (x0 : Vec Ideal S128x1 .f32) (x1 : Vec Ideal S32x128 .f32) (x2 : Vec Ideal S8x128 .f32)
    (v : Fin 4096 → EReal) (b : Fin 32) (hb : (i 0).val = b.val) (r : Fin 128) (h0 : x0 (ix2 r 0) = v (tok b r))
    (h1 : ∀ k x, x1 (ix2 k x) = v (tok k x)) (z : Fin 1) :
    out1_3 i x0 x1 x2 (ix2 r z) = BitVec.ofNat 32 (place v (tok b r)) := by
  rw [out1_3_eq, View.canon_cons_unit_lit]
  swap; · decide
  pointwise [k1_pay1]
  rw [count_tokens _ rfl (fun u => Ahead v u (tok b r)) r]
  · have := rank_lt v (tok b r)
    show (BitVec.ofNat 32 (rank v (tok b r)) + 2048#32) &&& 4095#32 = _
    unfold place
    apply BitVec.eq_of_toNat_eq
    rw [BitVec.toNat_and, BitVec.toNat_add, BitVec.toNat_ofNat, BitVec.toNat_ofNat, Nat.mod_eq_of_lt (a := rank v (tok b r)) (by omega)]
    show ((rank v (tok b r) + 2048) % 4294967296) &&& (2 ^ 12 - 1) = _
    rw [Nat.and_two_pow_sub_one_eq_mod, BitVec.toNat_ofNat]
    omega
  · intro k x
    refine (hitsRank_apply _ _ _ _ _ _).trans ?_
    have e0 : k1_pay3 (View.ld x0 r1_0) (ix2 r 0) = v (tok b r) := by
      rw [← h0]; pointwise [k1_pay3]
    rw [e0, h1, tid_apply, ← BitVec.ofNat_add, slt_nat (by omega) (by omega), hb]
    unfold Ahead
    simp only [decide_eq_true_eq]
    refine or_congr Iff.rfl (and_congr Iff.rfl ?_)
    show _ ↔ (tok k x).val < (tok b r).val
    simp only [tok]
    omega

end Cert.KernelIdeal.Hand
-- ==== Proof.RankArrays.lean ====
/- What the rank kernel's arrays hold after its launch: the tokens' places, and the loss tile. -/
module

public import proofs.«01_k».proof.Proof.RankValue

@[expose] public section
set_option maxRecDepth 16384
noncomputable section
namespace Cert.KernelIdeal.Hand

open Cert.KernelIdeal.Gen Cert.Route
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)
theorem coord1 : ∀ t : Fin cfg1.N, (grid1.coords t 0).val = t.val := (by decide +kernel : ∀ t : Fin grid1.N, _)

theorem rank_arr (c : Dev nD) (v : Fin 4096 → EReal) (h0 : ∀ (u : Fin 4096) (z : Fin 1), (V c main_v0_0 : Vec Ideal S4096x1 .f32) (ix2 u z) = v u)
    (h1 : ∀ (k : Fin 32) (x : Fin 128), (V c main_v1 : Vec Ideal S32x128 .f32) (ix2 k x) = v (tok k x)) :
    (dat1 V c).arrAt 3 cfg1.N = fun i : S4096x1.Idx => BitVec.ofNat 32 (place v (i 0)) := by
  refine (dat1 V c).arrAt_eq_of_covers 3 _ (by decide +kernel) fun t hf y => ?_
  blk_simp
  rw [after1_3]
  have hN : t.val < 32 := lt_of_lt_of_eq t.isLt N_1
  refine (congrArg (out1_3 (grid1.coords t) (iblk1 V c 0 t) (iblk1 V c 1 t) (iblk1 V c 2 t)) (ix2_eta (n0 := 128) (n1 := 1) y).symm).trans ?_
  refine (rank_block _ _ _ _ v ⟨t.val, hN⟩ (coord1 t) _ ?_ ?_ _).trans (congrArg (fun u => BitVec.ofNat 32 (place v u)) (Fin.ext ?_))
  · refine Eq.trans ?_ (h0 _ 0)
    blk_ext [iblk1, idx1_0 t, tok]
  · intro k x
    refine Eq.trans ?_ (h1 k x)
    blk_ext [iblk1, idx1_1 t]
  · refine Eq.trans (b := t.val * 128 + (y 0).val) (by show 128 * t.val + (y 0).val = _; omega) ?_
    blk_simp [idx1_3 t]

theorem loss_arr (c : Dev nD) (p q : Fin 128 → EReal) (hp : ∀ e, (V c main_v0_2 : Vec Ideal S8x128 .f32) (ix2 0 e) = p e)
    (hq : ∀ e, (V c main_v0_2 : Vec Ideal S8x128 .f32) (ix2 1 e) = q e) (i : S8x128.Idx) :
    (dat1 V c).arrAt 4 cfg1.N i = (∑ e : Fin 128, p e * q e) * Ideal.ofBits .f32 857986826#32 := by
  have h : (dat1 V c).arrAt 4 cfg1.N = fun _ : S8x128.Idx => (∑ e : Fin 128, p e * q e) * Ideal.ofBits .f32 857986826#32 := by
    refine (dat1 V c).arrAt_eq_of_covers 4 _ (by decide +kernel) fun t hf y => ?_
    blk_simp
    rw [after1_4]
    unfold loss1
    refine (congrArg (out1_4 (grid1.coords pt1_0) (iblk1 V c 0 pt1_0) (iblk1 V c 1 pt1_0) (iblk1 V c 2 pt1_0)) (ix2_eta (n0 := 8) (n1 := 128) y).symm).trans ?_
    rw [show out1_4 (grid1.coords pt1_0) (iblk1 V c 0 pt1_0) (iblk1 V c 1 pt1_0) (iblk1 V c 2 pt1_0) = k1_pay2 (iblk1 V c 2 pt1_0) by frame_out]
    generalize (y 0 : Fin 8) = a
    generalize (y 1 : Fin 128) = b
    have e0 : ∀ (r : Fin 8) (e : Fin 128), iblk1 V c 2 pt1_0 (ix2 r e) = (V c main_v0_2 : Vec Ideal S8x128 .f32) (ix2 r e) := fun r e => by
      blk_ext [iblk1, idx1_2 pt1_0]
    generalize (iblk1 V c 2 pt1_0 : Vec Ideal S8x128 .f32) = X at e0 ⊢
    pointwise [k1_pay2]
    simp only [e0, hp, hq]
    simp
  rw [h]

end Cert.KernelIdeal.Hand
-- ==== Proof.LocArrays.lean ====
/- What the location kernel's array holds after its launch: each token's expert and seat as one word. -/
module

public import proofs.«01_k».proof.Proof.LocValue

@[expose] public section
set_option maxRecDepth 16384
noncomputable section
namespace Cert.KernelIdeal.Hand

open Cert.KernelIdeal.Gen Cert.Route
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b))

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![t.val, 0] := (by decide +kernel : ∀ t : Fin grid2.N, _)

theorem read2_0 (c : Dev nD) (t : Fin cfg2.N) (r : Fin 128) (u : Fin 4096) (hu : u.val = t.val * 128 + r.val) :
    iblk2 V c 0 t (ix2 r 0) = (V c main_v2_0 : Vec Ideal S4096x1 .i32) (ix2 u 0) := by
  blk_ext [iblk2, idx2_0 t]

theorem read2_1 (c : Dev nD) (t : Fin cfg2.N) (r : Fin 128) (u : Fin 4096) (hu : u.val = t.val * 128 + r.val) :
    iblk2 V c 1 t (ix2 r 0) = (V c main_v0_1 : Vec Ideal S4096x1 .i32) (ix2 u 0) := by
  blk_ext [iblk2, idx2_1 t]

theorem read2_2 (c : Dev nD) (t : Fin cfg2.N) (k : Fin 32) (x : Fin 128) :
    iblk2 V c 2 t (ix2 k x) = (V c main_v3 : Vec Ideal S32x128 .i32) (ix2 k x) := by
  blk_ext [iblk2, idx2_2 t]

theorem read2_3 (c : Dev nD) (t : Fin cfg2.N) (k : Fin 32) (x : Fin 128) :
    iblk2 V c 3 t (ix2 k x) = (V c main_v4 : Vec Ideal S32x128 .i32) (ix2 k x) := by
  blk_ext [iblk2, idx2_3 t]

theorem loc_arr (c : Dev nD) (a : Fin 4096 → Fin 64) (p : Fin 4096 → ℕ) (hp : ∀ u, p u < 4096)
    (h0 : ∀ (u : Fin 4096) (z : Fin 1), (V c main_v2_0 : Vec Ideal S4096x1 .i32) (ix2 u z) = BitVec.ofNat 32 (p u))
    (h1 : ∀ (u : Fin 4096) (z : Fin 1), (V c main_v0_1 : Vec Ideal S4096x1 .i32) (ix2 u z) = BitVec.ofNat 32 (a u).val)
    (h2 : ∀ (k : Fin 32) (x : Fin 128), (V c main_v3 : Vec Ideal S32x128 .i32) (ix2 k x) = BitVec.ofNat 32 (p (tok k x)))
    (h3 : ∀ (k : Fin 32) (x : Fin 128), (V c main_v4 : Vec Ideal S32x128 .i32) (ix2 k x) = BitVec.ofNat 32 (a (tok k x)).val) :
    (dat2 V c).arrAt 4 cfg2.N = fun i : S4096x1.Idx => BitVec.ofNat 32 (goal (a (i 0)).val (seat a p (i 0))) := by
  refine (dat2 V c).arrAt_eq_of_covers 4 _ (by decide +kernel) fun t hf y => ?_
  blk_simp
  rw [after2_4]
  have hN : t.val < 32 := lt_of_lt_of_eq t.isLt N_2
  have hu : ((win2_4.blk t).view.emb y 0 : Fin 4096) = tok ⟨t.val, hN⟩ (y 0) := by
    refine Fin.ext (Eq.trans (b := t.val * 128 + (y 0).val) ?_ (by show _ = 128 * t.val + (y 0).val; omega))
    blk_simp [idx2_4 t]
  have hv : (tok ⟨t.val, hN⟩ (y 0)).val = t.val * 128 + (y 0).val := by show 128 * t.val + (y 0).val = _; omega
  have e0 := (read2_0 V c t (y 0) _ hv).trans (h0 _ 0)
  have e1 := (read2_1 V c t (y 0) _ hv).trans (h1 _ 0)
  have e2 := fun k x => (read2_2 V c t k x).trans (h2 k x)
  have e3 := fun k x => (read2_3 V c t k x).trans (h3 k x)
  rw [hu]
  refine (congrArg (out2_4 (iblk2 V c 0 t) (iblk2 V c 1 t) (iblk2 V c 2 t) (iblk2 V c 3 t)) (ix2_eta (n0 := 128) (n1 := 1) y).symm).trans ?_
  exact loc_block (iblk2 V c 0 t) (iblk2 V c 1 t) (iblk2 V c 2 t) (iblk2 V c 3 t) a p hp ⟨t.val, hN⟩ (y 0) e0 e1 e2 e3 (y 1)

end Cert.KernelIdeal.Hand
-- ==== Proof.KernelValue.lean ====
/- The kernel's three results, from the arguments. -/
module

public import proofs.«01_k».proof.Proof.HostReads
public import proofs.«01_k».proof.Proof.GateArrays
public import proofs.«01_k».proof.Proof.RankArrays
public import proofs.«01_k».proof.Proof.LocArrays

@[expose] public section
set_option maxRecDepth 16384
noncomputable section
namespace Cert.KernelIdeal.Hand

open Cert.KernelIdeal.Gen Cert.Route
open Idealize.ShloMosaic Idealize.ShloMosaic.TcCoe Idealize.ShloMosaic.Tactic

variable (m : (ℓ : Loc nD τ sig) → Buf (Elt Ideal) ℓ) (ρ : Dev nD → PrngReg) (c : Dev nD)

/-- The tokens' gates, from the arguments. -/
def G (u : Fin 4096) : Fin 64 → EReal := gates (m ((c : Thread nD τ).loc main_arg0)) (m ((c : Thread nD τ).loc main_arg1)) u

/-- The tokens' largest gates, experts and places. -/
def gm (u : Fin 4096) : EReal := top (G m c u)
def ex (u : Fin 4096) : Fin 64 := pick (G m c u)
def pl (u : Fin 4096) : ℕ := place (gm m c) u
def st (u : Fin 4096) : ℕ := seat (ex m c) (pl m c) u

theorem w1_gm (u : Fin 4096) (z : Fin 1) : (W1 m ρ c main_v0_0 : Vec Ideal S4096x1 .f32) (ix2 u z) = gm m c u :=
  congrFun ((W1_arr m ρ c 2).trans (gate_top (V0 m ρ) c)) (ix2 u z)

theorem w1_ex (u : Fin 4096) (z : Fin 1) : (W1 m ρ c main_v0_1 : Vec Ideal S4096x1 .i32) (ix2 u z) = BitVec.ofNat 32 (ex m c u).val :=
  congrFun ((W1_arr m ρ c 3).trans (gate_pick (V0 m ρ) c)) (ix2 u z)

/-- The statistics' two rows. -/
def row0 (e : Fin 128) : EReal := if h : e.val < 64 then ∑ u : Fin 4096, G m c u ⟨e.val, h⟩ else 0
def row1 (e : Fin 128) : EReal := if e.val < 64 then ∑ u : Fin 4096, (if e.val = (ex m c u).val then (1 : EReal) else 0) else 0

theorem w1_row0 (e : Fin 128) : (W1 m ρ c main_v0_2 : Vec Ideal S8x128 .f32) (ix2 0 e) = row0 m c e :=
  (congrFun (W1_arr m ρ c 4) (ix2 0 e)).trans (stats_row0 (V0 m ρ) c e)

theorem w1_row1 (e : Fin 128) : (W1 m ρ c main_v0_2 : Vec Ideal S8x128 .f32) (ix2 1 e) = row1 m c e :=
  (congrFun (W1_arr m ρ c 4) (ix2 1 e)).trans (stats_row1 (V0 m ρ) c e)

theorem w2_gm (u : Fin 4096) (z : Fin 1) : (W2 m ρ c main_v0_0 : Vec Ideal S4096x1 .f32) (ix2 u z) = gm m c u :=
  (congrFun (W2_of m ρ c main_v0_0 (by decide)) (ix2 u z)).trans (w1_gm m ρ c u z)

theorem w2_rows (k : Fin 32) (x : Fin 128) : (W2 m ρ c main_v1 : Vec Ideal S32x128 .f32) (ix2 k x) = gm m c (tok k x) :=
  (read_v1 (W1 m ρ c) k x).trans (w1_gm m ρ c _ 0)

theorem w3_pl (u : Fin 4096) (z : Fin 1) : (W3 m ρ c main_v2_0 : Vec Ideal S4096x1 .i32) (ix2 u z) = BitVec.ofNat 32 (pl m c u) :=
  congrFun ((W3_arr m ρ c 3).trans (rank_arr (V2 m ρ) c (gm m c) (w2_gm m ρ c) (w2_rows m ρ c))) (ix2 u z)

theorem w3_loss (i : S8x128.Idx) : (W3 m ρ c main_v2_1 : Vec Ideal S8x128 .f32) i = (∑ e : Fin 128, row0 m c e * row1 m c e) * Ideal.ofBits .f32 857986826#32 :=
  (congrFun (W3_arr m ρ c 4) i).trans (loss_arr (V2 m ρ) c (row0 m c) (row1 m c)
    (fun e => (congrFun (W2_of m ρ c main_v0_2 (by decide)) (ix2 0 e)).trans (w1_row0 m ρ c e))
    (fun e => (congrFun (W2_of m ρ c main_v0_2 (by decide)) (ix2 1 e)).trans (w1_row1 m ρ c e)) i)

theorem w3_gm (u : Fin 4096) (z : Fin 1) : (W3 m ρ c main_v0_0 : Vec Ideal S4096x1 .f32) (ix2 u z) = gm m c u :=
  (congrFun (W3_of m ρ c main_v0_0 (by decide)) (ix2 u z)).trans (w2_gm m ρ c u z)

theorem w3_ex (u : Fin 4096) (z : Fin 1) : (W3 m ρ c main_v0_1 : Vec Ideal S4096x1 .i32) (ix2 u z) = BitVec.ofNat 32 (ex m c u).val :=
  (congrFun ((W3_of m ρ c main_v0_1 (by decide)).trans (W2_of m ρ c main_v0_1 (by decide))) (ix2 u z)).trans (w1_ex m ρ c u z)

theorem w5_goal (u : Fin 4096) (z : Fin 1) : (W5 m ρ c main_v5 : Vec Ideal S4096x1 .i32) (ix2 u z) = BitVec.ofNat 32 (goal (ex m c u).val (st m c u)) :=
  congrFun ((W5_arr m ρ c 4).trans (loc_arr (V4 m ρ) c (ex m c) (pl m c) (place_lt _)
    (fun u z => (congrFun (W4_of m ρ c main_v2_0 (by decide)) (ix2 u z)).trans (w3_pl m ρ c u z))
    (fun u z => (congrFun (W4_of m ρ c main_v0_1 (by decide)) (ix2 u z)).trans (w3_ex m ρ c u z))
    (fun k x => (read_v3 (W3 m ρ c) k x).trans (w3_pl m ρ c _ 0))
    (fun k x => (read_v4 (W3 m ρ c) k x).trans (w3_ex m ρ c _ 0)))) (ix2 u z)

theorem w5_gm (u : Fin 4096) (z : Fin 1) : (W5 m ρ c main_v0_0 : Vec Ideal S4096x1 .f32) (ix2 u z) = gm m c u :=
  (congrFun ((W5_of m ρ c main_v0_0 (by decide)).trans (W4_of m ρ c main_v0_0 (by decide))) (ix2 u z)).trans (w3_gm m ρ c u z)

theorem w7_comb : (W7 m ρ c main_v8_0 : Vec Ideal S64x64x4096 .f32) = fun i => spread (ex m c) (st m c) (gm m c) (i 2) (i 0) (i 1) :=
  (W7_arr m ρ c 2).trans (combine_arr (V6 m ρ) c (ex m c) (st m c) (seat_lt _ _) (gm m c)
    (fun k x => (read_v6 (W5 m ρ c) k x).trans (w5_goal m ρ c _ 0))
    (fun k x => (read_v7 (W5 m ρ c) k x).trans (w5_gm m ρ c _ 0)))

theorem w7_disp : (W7 m ρ c main_v8_1 : Vec Ideal S64x64x4096 .i32) = fun i => marked (ex m c) (st m c) (i 2) (i 0) (i 1) :=
  (W7_arr m ρ c 3).trans (dispatch_arr (V6 m ρ) c (ex m c) (st m c) (seat_lt _ _)
    (fun k x => (read_v6 (W5 m ρ c) k x).trans (w5_goal m ρ c _ 0)))

/-- Result 1: the load-balancing loss. -/
theorem loss_value : (W8 m ρ c main_v14 : Vec Ideal S_ .f32) ix0 = (∑ e : Fin 128, row0 m c e * row1 m c e) * Ideal.ofBits .f32 857986826#32 :=
  (read_v14 (W7 m ρ c)).trans ((congrFun (((W7_of m ρ c main_v2_1 (by decide)).trans (W6_of m ρ c main_v2_1 (by decide))).trans
    ((W5_of m ρ c main_v2_1 (by decide)).trans (W4_of m ρ c main_v2_1 (by decide)))) (ix2 0 0)).trans (w3_loss m ρ c _))

/-- Result 2: at token, expert and seat the token's gate where it has that expert and seat. -/
theorem combine_value (u : Fin 4096) (e k : Fin 64) :
    (W8 m ρ c main_v15 : Vec Ideal S4096x64x64 .f32) (ix3 u e k) = spread (ex m c) (st m c) (gm m c) u e k :=
  (read_v15 (W7 m ρ c) u e k).trans (congrFun (w7_comb m ρ c) (ix3 e k u))

/-- Result 3: whether the token has that expert and seat. -/
theorem dispatch_value (u : Fin 4096) (e k : Fin 64) :
    (W8 m ρ c main_v16 : Vec Ideal S4096x64x64 .i1) (ix3 u e k) = if ex m c u = e ∧ st m c u = k.val then 1#1 else 0#1 := by
  refine (read_v16 (W7 m ρ c) u e k).trans ((congrArg (IntOp.cmpi .ne · 0#32) (congrFun (w7_disp m ρ c) (ix3 e k u))).trans ?_)
  show IntOp.cmpi .ne (marked (ex m c) (st m c) u e k) 0#32 = _
  unfold marked
  split <;> decide

end Cert.KernelIdeal.Hand
-- ==== Proof.RefRun.lean ====
/- The operations the reference runs, in order and in nine groups, and that its @main is their straight line.
   Each group's list is the program's own text; the group ends at the value its name says. -/
module

public import proofs.«01_k».proof.Proof.Gen.ReferenceIdeal
public import proofs.«01_k».proof.Defs
public import Idealize.ShloMosaic.Lib.StableHlo.RunHlo
public import Idealize.ShloMosaic.Lib.StableHlo.RunRead
public import Idealize.ShloMosaic.Lib.Claim
public import Idealize.ShloMosaic.Lib.Tactic

@[expose] public section
noncomputable section
namespace Cert.ReferenceIdeal.Hand

open Idealize.ShloMosaic Idealize.ShloMosaic.TcCoe Idealize.SL.Sem Cert.ReferenceIdeal.Facts₀

variable {F : FTy → Type} [FloatOps F]

/-- Group 0: gates. -/
def ops0 : List (HloOp τ sig (Elt F)) := [
  StableHlo.binary main_arg0 main_arg1 main_v0 ((fun l r => Host.dotGeneral dot_S4096x2048_S2048x64_S4096x64_1_0_0_1_n_n none l r) : (⟨S4096x2048, .f32⟩ : BufTy).Contents (Elt F) → (⟨S2048x64, .f32⟩ : BufTy).Contents (Elt F) → (⟨S4096x64, .f32⟩ : BufTy).Contents (Elt F)),
  StableHlo.nullary main_cst (constant S_ .f32 0xFF800000#32),
  StableHlo.binary main_v0 main_cst main_v1 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
  StableHlo.nullary main_cst_0 (constant S_ .f32 0xFF800000#32),
  StableHlo.unary main_cst_0 main_v2 (broadcastInDim S4096 ![] bcast_S_S4096 : (⟨S_, .f32⟩ : BufTy).Contents (Elt F) → (⟨S4096, .f32⟩ : BufTy).Contents (Elt F)),
  StableHlo.binary main_v2 main_v1 main_v3 (maximumf : (⟨S4096, .f32⟩ : BufTy).Contents (Elt F) → (⟨S4096, .f32⟩ : BufTy).Contents (Elt F) → (⟨S4096, .f32⟩ : BufTy).Contents (Elt F)),
  StableHlo.unary main_v3 main_v4 (broadcastInDim S4096x1 ![0] bcast_S4096_S4096x1_0 : (⟨S4096, .f32⟩ : BufTy).Contents (Elt F) → (⟨S4096x1, .f32⟩ : BufTy).Contents (Elt F)),
  StableHlo.unary main_v4 main_v5 (broadcastInDim S4096x64 ![0, 1] bcast_S4096x1_S4096x64_0_1 : (⟨S4096x1, .f32⟩ : BufTy).Contents (Elt F) → (⟨S4096x64, .f32⟩ : BufTy).Contents (Elt F)),
  StableHlo.binary main_v0 main_v5 main_v6 (subf : (⟨S4096x64, .f32⟩ : BufTy).Contents (Elt F) → (⟨S4096x64, .f32⟩ : BufTy).Contents (Elt F) → (⟨S4096x64, .f32⟩ : BufTy).Contents (Elt F)),
  StableHlo.unary main_v6 main_v7 (Host.exp : (⟨S4096x64, .f32⟩ : BufTy).Contents (Elt F) → (⟨S4096x64, .f32⟩ : BufTy).Contents (Elt F)),
  StableHlo.nullary main_cst_1 (constant S_ .f32 0x00000000#32),
  StableHlo.binary main_v7 main_cst_1 main_v8 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
  StableHlo.unary main_v8 main_v9 (broadcastInDim S4096x1 ![0] bcast_S4096_S4096x1_0 : (⟨S4096, .f32⟩ : BufTy).Contents (Elt F) → (⟨S4096x1, .f32⟩ : BufTy).Contents (Elt F)),
  StableHlo.unary main_v9 main_v10 (broadcastInDim S4096x64 ![0, 1] bcast_S4096x1_S4096x64_0_1 : (⟨S4096x1, .f32⟩ : BufTy).Contents (Elt F) → (⟨S4096x64, .f32⟩ : BufTy).Contents (Elt F)),
  StableHlo.binary main_v7 main_v10 main_v11 (Host.divf : (⟨S4096x64, .f32⟩ : BufTy).Contents (Elt F) → (⟨S4096x64, .f32⟩ : BufTy).Contents (Elt F) → (⟨S4096x64, .f32⟩ : BufTy).Contents (Elt F))]

/-- Group 1: expert mask. -/
def ops1 : List (HloOp τ sig (Elt F)) := [
  StableHlo.TRef.nullary main_call0.v0 (iotaInDim S4096x64 32 1),
  StableHlo.TRef.nullary main_call0.cst (constant S_ .f32 0xFF800000#32),
  StableHlo.TRef.nullary main_call0.c (constantI S_ 32 0#32),
  StableHlo.TRef.quaternary (.of main_v11 : StableHlo.TRef sig ⟨S4096x64, .f32⟩) main_call0.v0 main_call0.cst main_call0.c main_call0.v1_0 (fun x y u v j => (Host.argReduce reducer_argmax_f32_i32 x y u v reducesTo_S4096x64_S4096_d1 h_S_ j).1),
  StableHlo.TRef.quaternary (.of main_v11 : StableHlo.TRef sig ⟨S4096x64, .f32⟩) main_call0.v0 main_call0.cst main_call0.c main_call0.v1_1 (fun x y u v j => (Host.argReduce reducer_argmax_f32_i32 x y u v reducesTo_S4096x64_S4096_d1 h_S_ j).2),
  StableHlo.TRef.unary (.of main_v12 : StableHlo.TRef sig ⟨S4096, .i32⟩) main_call1.v0 (broadcastInDim S4096x1 ![0] bcast_S4096_S4096x1_0),
  StableHlo.TRef.nullary main_call1.v1 (iotaInDim S1x64 32 1),
  StableHlo.TRef.unary main_call1.v0 main_call1.v2 (broadcastInDim S4096x64 ![0, 1] bcast_S4096x1_S4096x64_0_1),
  StableHlo.TRef.unary main_call1.v1 main_call1.v3 (broadcastInDim S4096x64 ![0, 1] bcast_S1x64_S4096x64_0_1),
  StableHlo.TRef.binary main_call1.v2 main_call1.v3 main_call1.v4 (cmpi .eq),
  StableHlo.TRef.unary main_call1.v4 main_call1.v5 (extui 32 · natLt_1_32)]

/-- Group 2: loss. -/
def ops2 : List (HloOp τ sig (Elt F)) := [
  StableHlo.nullary main_cst_2 (constant S_ .f32 0x00000000#32),
  StableHlo.binary main_v11 main_cst_2 main_v14 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
  StableHlo.nullary main_cst_3 (constant S_ .f32 0x45800000#32),
  StableHlo.unary main_cst_3 main_v15 (broadcastInDim S64 ![] bcast_S_S64 : (⟨S_, .f32⟩ : BufTy).Contents (Elt F) → (⟨S64, .f32⟩ : BufTy).Contents (Elt F)),
  StableHlo.binary main_v14 main_v15 main_v16 (Host.divf : (⟨S64, .f32⟩ : BufTy).Contents (Elt F) → (⟨S64, .f32⟩ : BufTy).Contents (Elt F) → (⟨S64, .f32⟩ : BufTy).Contents (Elt F)),
  StableHlo.unary main_v13 main_v17 (sitofp .f32 : (⟨S4096x64, .i32⟩ : BufTy).Contents (Elt F) → (⟨S4096x64, .f32⟩ : BufTy).Contents (Elt F)),
  StableHlo.nullary main_cst_4 (constant S_ .f32 0x00000000#32),
  StableHlo.binary main_v17 main_cst_4 main_v18 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
  StableHlo.nullary main_cst_5 (constant S_ .f32 0x45800000#32),
  StableHlo.unary main_cst_5 main_v19 (broadcastInDim S64 ![] bcast_S_S64 : (⟨S_, .f32⟩ : BufTy).Contents (Elt F) → (⟨S64, .f32⟩ : BufTy).Contents (Elt F)),
  StableHlo.binary main_v18 main_v19 main_v20 (Host.divf : (⟨S64, .f32⟩ : BufTy).Contents (Elt F) → (⟨S64, .f32⟩ : BufTy).Contents (Elt F) → (⟨S64, .f32⟩ : BufTy).Contents (Elt F)),
  StableHlo.binary main_v16 main_v20 main_v21 (mulf : (⟨S64, .f32⟩ : BufTy).Contents (Elt F) → (⟨S64, .f32⟩ : BufTy).Contents (Elt F) → (⟨S64, .f32⟩ : BufTy).Contents (Elt F)),
  StableHlo.nullary main_cst_6 (constant S_ .f32 0x00000000#32),
  StableHlo.binary main_v21 main_cst_6 main_v22 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
  StableHlo.nullary main_cst_7 (constant S_ .f32 0x42800000#32),
  StableHlo.binary main_v22 main_cst_7 main_v23 (mulf : (⟨S_, .f32⟩ : BufTy).Contents (Elt F) → (⟨S_, .f32⟩ : BufTy).Contents (Elt F) → (⟨S_, .f32⟩ : BufTy).Contents (Elt F)),
  StableHlo.nullary main_cst_8 (constant S_ .f32 0x3C23D70A#32),
  StableHlo.binary main_v23 main_cst_8 main_v24 (mulf : (⟨S_, .f32⟩ : BufTy).Contents (Elt F) → (⟨S_, .f32⟩ : BufTy).Contents (Elt F) → (⟨S_, .f32⟩ : BufTy).Contents (Elt F))]

/-- Group 3: sort key. -/
def ops3 : List (HloOp τ sig (Elt F)) := [
  StableHlo.nullary main_cst_9 (constant S_ .f32 0xFF800000#32),
  StableHlo.binary main_v11 main_cst_9 main_v25 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
  StableHlo.nullary main_cst_10 (constant S_ .f32 0xBF800000#32),
  StableHlo.unary main_cst_10 main_v26 (broadcastInDim S4096 ![] bcast_S_S4096 : (⟨S_, .f32⟩ : BufTy).Contents (Elt F) → (⟨S4096, .f32⟩ : BufTy).Contents (Elt F)),
  StableHlo.binary main_v26 main_v25 main_v27 (mulf : (⟨S4096, .f32⟩ : BufTy).Contents (Elt F) → (⟨S4096, .f32⟩ : BufTy).Contents (Elt F) → (⟨S4096, .f32⟩ : BufTy).Contents (Elt F))]

/-- Group 4: two sorts. -/
def ops4 : List (HloOp τ sig (Elt F)) := [
  StableHlo.TRef.nullary main_call2.v0 (iotaInDim S4096 32 0),
  StableHlo.TRef.binary (.of main_v27 : StableHlo.TRef sig ⟨S4096, .f32⟩) main_call2.v0 main_call2.v1_0 (fun x y => (Host.sort2 S4096 0 comparator_f32_i32_d0 x y).1),
  StableHlo.TRef.binary (.of main_v27 : StableHlo.TRef sig ⟨S4096, .f32⟩) main_call2.v0 main_call2.v1_1 (fun x y => (Host.sort2 S4096 0 comparator_f32_i32_d0 x y).2),
  StableHlo.TRef.unary (.of main_v28 : StableHlo.TRef sig ⟨S4096, .i32⟩) main_call3.v0 (extractStridedSlice S2048 ![2048] · slices_S4096_S2048_2048),
  StableHlo.TRef.unary (.of main_v28 : StableHlo.TRef sig ⟨S4096, .i32⟩) main_call3.v1 (extractStridedSlice S2048 ![0] · slices_S4096_S2048_0),
  StableHlo.TRef.binary main_call3.v0 main_call3.v1 main_call3.v2 (fun a b => concatenate S4096 0 [⟨S2048, a⟩, ⟨S2048, b⟩] concatenates_S2048_S2048_S4096_d0),
  StableHlo.TRef.nullary main_call4.v0 (iotaInDim S4096 32 0),
  StableHlo.TRef.binary (.of main_v29 : StableHlo.TRef sig ⟨S4096, .i32⟩) main_call4.v0 main_call4.v1_0 (fun x y => (Host.sort2 S4096 0 comparator_i32_i32_d0 x y).1),
  StableHlo.TRef.binary (.of main_v29 : StableHlo.TRef sig ⟨S4096, .i32⟩) main_call4.v0 main_call4.v1_1 (fun x y => (Host.sort2 S4096 0 comparator_i32_i32_d0 x y).2)]

/-- Group 5: cumulative count. -/
def ops5 : List (HloOp τ sig (Elt F)) := [
  StableHlo.nullary main_c (constantI S_ 32 0#32),
  StableHlo.unary main_c main_v31 (broadcastInDim S4096 ![] bcast_S_S4096 : (⟨S_, .i32⟩ : BufTy).Contents (Elt F) → (⟨S4096, .i32⟩ : BufTy).Contents (Elt F)),
  StableHlo.binary main_v29 main_v31 main_v32 (cmpi .slt : (⟨S4096, .i32⟩ : BufTy).Contents (Elt F) → (⟨S4096, .i32⟩ : BufTy).Contents (Elt F) → (⟨S4096, .i1⟩ : BufTy).Contents (Elt F)),
  StableHlo.nullary main_c_11 (constantI S_ 32 4096#32),
  StableHlo.unary main_c_11 main_v33 (broadcastInDim S4096 ![] bcast_S_S4096 : (⟨S_, .i32⟩ : BufTy).Contents (Elt F) → (⟨S4096, .i32⟩ : BufTy).Contents (Elt F)),
  StableHlo.binary main_v29 main_v33 main_v34 (addi : (⟨S4096, .i32⟩ : BufTy).Contents (Elt F) → (⟨S4096, .i32⟩ : BufTy).Contents (Elt F) → (⟨S4096, .i32⟩ : BufTy).Contents (Elt F)),
  StableHlo.ternary main_v32 main_v34 main_v29 main_v35 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
  StableHlo.unary main_v35 main_v36 (broadcastInDim S4096x1 ![0] bcast_S4096_S4096x1_0 : (⟨S4096, .i32⟩ : BufTy).Contents (Elt F) → (⟨S4096x1, .i32⟩ : BufTy).Contents (Elt F)),
  StableHlo.binary main_v13 main_v36 main_v37 ((fun x i => Host.gather gather_S4096x64_S4096x1_S4096x64_1_0_n_n_0_1_164 x i) : (⟨S4096x64, .i32⟩ : BufTy).Contents (Elt F) → (⟨S4096x1, .i32⟩ : BufTy).Contents (Elt F) → (⟨S4096x64, .i32⟩ : BufTy).Contents (Elt F)),
  StableHlo.TRef.nullary main_call5.call0.c (constantI S_ 32 0#32),
  StableHlo.TRef.unary main_call5.call0.c main_call5.call0.v0 (broadcastInDim S_ ![] bcast_S_S_),
  StableHlo.TRef.binary (.of main_v37 : StableHlo.TRef sig ⟨S4096x64, .i32⟩) main_call5.call0.v0 main_call5.call0.v1 (fun x v => Host.reduceWindow IntOp.addi ![4096, 1] ![1, 1] ![4095, 0] ![0, 0] x v reduceWindows_S4096x64_S4096x64_w4096s1p4095_0_w1s1p0_0 h_S_)]

/-- Group 6: location. -/
def ops6 : List (HloOp τ sig (Elt F)) := [
  StableHlo.nullary main_c_12 (constantI S_ 32 1#32),
  StableHlo.unary main_c_12 main_v39 (broadcastInDim S4096x64 ![] bcast_S_S4096x64 : (⟨S_, .i32⟩ : BufTy).Contents (Elt F) → (⟨S4096x64, .i32⟩ : BufTy).Contents (Elt F)),
  StableHlo.binary main_v38 main_v39 main_v40 (subi : (⟨S4096x64, .i32⟩ : BufTy).Contents (Elt F) → (⟨S4096x64, .i32⟩ : BufTy).Contents (Elt F) → (⟨S4096x64, .i32⟩ : BufTy).Contents (Elt F)),
  StableHlo.binary main_v40 main_v37 main_v41 (muli : (⟨S4096x64, .i32⟩ : BufTy).Contents (Elt F) → (⟨S4096x64, .i32⟩ : BufTy).Contents (Elt F) → (⟨S4096x64, .i32⟩ : BufTy).Contents (Elt F)),
  StableHlo.nullary main_c_13 (constantI S_ 32 0#32),
  StableHlo.unary main_c_13 main_v42 (broadcastInDim S4096 ![] bcast_S_S4096 : (⟨S_, .i32⟩ : BufTy).Contents (Elt F) → (⟨S4096, .i32⟩ : BufTy).Contents (Elt F)),
  StableHlo.binary main_v30 main_v42 main_v43 (cmpi .slt : (⟨S4096, .i32⟩ : BufTy).Contents (Elt F) → (⟨S4096, .i32⟩ : BufTy).Contents (Elt F) → (⟨S4096, .i1⟩ : BufTy).Contents (Elt F)),
  StableHlo.nullary main_c_14 (constantI S_ 32 4096#32),
  StableHlo.unary main_c_14 main_v44 (broadcastInDim S4096 ![] bcast_S_S4096 : (⟨S_, .i32⟩ : BufTy).Contents (Elt F) → (⟨S4096, .i32⟩ : BufTy).Contents (Elt F)),
  StableHlo.binary main_v30 main_v44 main_v45 (addi : (⟨S4096, .i32⟩ : BufTy).Contents (Elt F) → (⟨S4096, .i32⟩ : BufTy).Contents (Elt F) → (⟨S4096, .i32⟩ : BufTy).Contents (Elt F)),
  StableHlo.ternary main_v43 main_v45 main_v30 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
  StableHlo.unary main_v46 main_v47 (broadcastInDim S4096x1 ![0] bcast_S4096_S4096x1_0 : (⟨S4096, .i32⟩ : BufTy).Contents (Elt F) → (⟨S4096x1, .i32⟩ : BufTy).Contents (Elt F)),
  StableHlo.binary main_v41 main_v47 main_v48 ((fun x i => Host.gather gather_S4096x64_S4096x1_S4096x64_1_0_n_n_0_1_164 x i) : (⟨S4096x64, .i32⟩ : BufTy).Contents (Elt F) → (⟨S4096x1, .i32⟩ : BufTy).Contents (Elt F) → (⟨S4096x64, .i32⟩ : BufTy).Contents (Elt F))]

/-- Group 7: tables. -/
def ops7 : List (HloOp τ sig (Elt F)) := [
  StableHlo.nullary main_c_15 (constantI S_ 32 64#32),
  StableHlo.unary main_c_15 main_v49 (broadcastInDim S4096x64 ![] bcast_S_S4096x64 : (⟨S_, .i32⟩ : BufTy).Contents (Elt F) → (⟨S4096x64, .i32⟩ : BufTy).Contents (Elt F)),
  StableHlo.binary main_v48 main_v49 main_v50 (cmpi .slt : (⟨S4096x64, .i32⟩ : BufTy).Contents (Elt F) → (⟨S4096x64, .i32⟩ : BufTy).Contents (Elt F) → (⟨S4096x64, .i1⟩ : BufTy).Contents (Elt F)),
  StableHlo.unary main_v50 main_v51 ((extui 32 · natLt_1_32) : (⟨S4096x64, .i1⟩ : BufTy).Contents (Elt F) → (⟨S4096x64, .i32⟩ : BufTy).Contents (Elt F)),
  StableHlo.binary main_v13 main_v51 main_v52 (muli : (⟨S4096x64, .i32⟩ : BufTy).Contents (Elt F) → (⟨S4096x64, .i32⟩ : BufTy).Contents (Elt F) → (⟨S4096x64, .i32⟩ : BufTy).Contents (Elt F)),
  StableHlo.binary main_v48 main_v52 main_v53 (muli : (⟨S4096x64, .i32⟩ : BufTy).Contents (Elt F) → (⟨S4096x64, .i32⟩ : BufTy).Contents (Elt F) → (⟨S4096x64, .i32⟩ : BufTy).Contents (Elt F)),
  StableHlo.nullary main_c_16 (constantI S_ 32 0#32),
  StableHlo.binary main_v53 main_c_16 main_v54 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
  StableHlo.unary main_v52 main_v55 (sitofp .f32 : (⟨S4096x64, .i32⟩ : BufTy).Contents (Elt F) → (⟨S4096x64, .f32⟩ : BufTy).Contents (Elt F)),
  StableHlo.binary main_v11 main_v55 main_v56 (mulf : (⟨S4096x64, .f32⟩ : BufTy).Contents (Elt F) → (⟨S4096x64, .f32⟩ : BufTy).Contents (Elt F) → (⟨S4096x64, .f32⟩ : BufTy).Contents (Elt F)),
  StableHlo.TRef.unary (.of main_v54 : StableHlo.TRef sig ⟨S4096, .i32⟩) main_call6.v0 (broadcastInDim S4096x1 ![0] bcast_S4096_S4096x1_0),
  StableHlo.TRef.nullary main_call6.v1 (iotaInDim S1x64 32 1),
  StableHlo.TRef.unary main_call6.v0 main_call6.v2 (broadcastInDim S4096x64 ![0, 1] bcast_S4096x1_S4096x64_0_1),
  StableHlo.TRef.unary main_call6.v1 main_call6.v3 (broadcastInDim S4096x64 ![0, 1] bcast_S1x64_S4096x64_0_1),
  StableHlo.TRef.binary main_call6.v2 main_call6.v3 main_call6.v4 (cmpi .eq),
  StableHlo.TRef.unary main_call6.v4 main_call6.v5 (uitofp .f32)]

/-- Group 8: results. -/
def ops8 : List (HloOp τ sig (Elt F)) := [
  StableHlo.unary main_v56 main_v58 (broadcastInDim S4096x64x1 ![0, 1] bcast_S4096x64_S4096x64x1_0_1 : (⟨S4096x64, .f32⟩ : BufTy).Contents (Elt F) → (⟨S4096x64x1, .f32⟩ : BufTy).Contents (Elt F)),
  StableHlo.unary main_v57 main_v59 (broadcastInDim S4096x1x64 ![0, 2] bcast_S4096x64_S4096x1x64_0_2 : (⟨S4096x64, .f32⟩ : BufTy).Contents (Elt F) → (⟨S4096x1x64, .f32⟩ : BufTy).Contents (Elt F)),
  StableHlo.unary main_v58 main_v60 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
  StableHlo.unary main_v59 main_v61 (broadcastInDim S4096x64x64 ![0, 1, 2] bcast_S4096x1x64_S4096x64x64_0_1_2 : (⟨S4096x1x64, .f32⟩ : BufTy).Contents (Elt F) → (⟨S4096x64x64, .f32⟩ : BufTy).Contents (Elt F)),
  StableHlo.binary main_v60 main_v61 main_v62 (mulf : (⟨S4096x64x64, .f32⟩ : BufTy).Contents (Elt F) → (⟨S4096x64x64, .f32⟩ : BufTy).Contents (Elt F) → (⟨S4096x64x64, .f32⟩ : BufTy).Contents (Elt F)),
  StableHlo.nullary main_cst_17 (constant S_ .f32 0x00000000#32),
  StableHlo.unary main_cst_17 main_v63 (broadcastInDim S4096x64x64 ![] bcast_S_S4096x64x64 : (⟨S_, .f32⟩ : BufTy).Contents (Elt F) → (⟨S4096x64x64, .f32⟩ : BufTy).Contents (Elt F)),
  StableHlo.binary main_v62 main_v63 main_v64 (cmpf .une : (⟨S4096x64x64, .f32⟩ : BufTy).Contents (Elt F) → (⟨S4096x64x64, .f32⟩ : BufTy).Contents (Elt F) → (⟨S4096x64x64, .i1⟩ : BufTy).Contents (Elt F))]

/-- All of them. -/
def ops : List (HloOp τ sig (Elt F)) :=
  ops0 ++ (ops1 ++ (ops2 ++ (ops3 ++ (ops4 ++ (ops5 ++ (ops6 ++ (ops7 ++ (ops8))))))))

/-- The buffers they write. -/
def written : List (Ref sig .tc) :=
  [main_v0,
   main_cst,
   main_v1,
   main_cst_0,
   main_v2,
   main_v3,
   main_v4,
   main_v5,
   main_v6,
   main_v7,
   main_cst_1,
   main_v8,
   main_v9,
   main_v10,
   main_v11,
   main_call0.v0.ref,
   main_call0.cst.ref,
   main_call0.c.ref,
   main_call0.v1_0.ref,
   main_call0.v1_1.ref,
   main_call1.v0.ref,
   main_call1.v1.ref,
   main_call1.v2.ref,
   main_call1.v3.ref,
   main_call1.v4.ref,
   main_call1.v5.ref,
   main_cst_2,
   main_v14,
   main_cst_3,
   main_v15,
   main_v16,
   main_v17,
   main_cst_4,
   main_v18,
   main_cst_5,
   main_v19,
   main_v20,
   main_v21,
   main_cst_6,
   main_v22,
   main_cst_7,
   main_v23,
   main_cst_8,
   main_v24,
   main_cst_9,
   main_v25,
   main_cst_10,
   main_v26,
   main_v27,
   main_call2.v0.ref,
   main_call2.v1_0.ref,
   main_call2.v1_1.ref,
   main_call3.v0.ref,
   main_call3.v1.ref,
   main_call3.v2.ref,
   main_call4.v0.ref,
   main_call4.v1_0.ref,
   main_call4.v1_1.ref,
   main_c,
   main_v31,
   main_v32,
   main_c_11,
   main_v33,
   main_v34,
   main_v35,
   main_v36,
   main_v37,
   main_call5.call0.c.ref,
   main_call5.call0.v0.ref,
   main_call5.call0.v1.ref,
   main_c_12,
   main_v39,
   main_v40,
   main_v41,
   main_c_13,
   main_v42,
   main_v43,
   main_c_14,
   main_v44,
   main_v45,
   main_v46,
   main_v47,
   main_v48,
   main_c_15,
   main_v49,
   main_v50,
   main_v51,
   main_v52,
   main_v53,
   main_c_16,
   main_v54,
   main_v55,
   main_v56,
   main_call6.v0.ref,
   main_call6.v1.ref,
   main_call6.v2.ref,
   main_call6.v3.ref,
   main_call6.v4.ref,
   main_call6.v5.ref,
   main_v58,
   main_v59,
   main_v60,
   main_v61,
   main_v62,
   main_cst_17,
   main_v63,
   main_v64]

/-- The program is the straight line of these operations. -/
theorem main_isSeq (d : Dev nD) : StableHlo.IsSeq (main (F := F) d) (ops (F := F)) := by
  unfold StableHlo.IsSeq
  sl_kernel_rfl

theorem ops_writes : (ops (F := F)).map HloOp.writes = written.map fun r => {Proc.devRef (τ := τ) .tc r} := rfl

/-- The reference run: every buffer ends at what the operations leave. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = StableHlo.after (ops (F := F)) (StableHlo.launchContents m d) (Proc.devRef .tc b) :=
  StableHlo.run_hlo _ _ main_isSeq (by decide) (by decide) (by simp [ops, ops0, ops1, ops2, ops3, ops4, ops5, ops6, ops7, ops8])
    (List.forall_iff_forall_mem.mp (StableHlo.forall_fresh_of_map rfl)) m ρ

theorem keeps (V : Valuation τ sig (Elt F)) {r : Ref sig .tc} (hr : r ∉ written) :
    StableHlo.after (ops (F := F)) V (Proc.devRef .tc r) = V (Proc.devRef .tc r) :=
  StableHlo.after_of_writes_sub _ V (StableHlo.forall_writes_sub_of_map ops_writes) hr

/-- The reference's frame: it runs, its arguments end unchanged, and it declares no semaphore. -/
theorem frame : Cert.quiescent_ReferenceIdeal := by
  intro m g _
  exact θ_run_mono (run_ref m g) fun r h =>
    ⟨fun c => ⟨(h c main_arg0).trans (keeps _ (by decide)), (h c main_arg1).trans (keeps _ (by decide))⟩,
      sem_eq_zero_of_no_sems (by decide) r.2⟩

end Cert.ReferenceIdeal.Hand
-- ==== Proof.RefSort.lean ====
/- The order of service in the reference: a stable sort of the tokens by their negated largest gate, rolled by half its
   length, and sorted back. The first gives the token of each rank, the roll the token of each place, the last the place
   of each token. -/
module

public import proofs.«01_k».proof.Proof.RefRun
public import proofs.«01_k».proof.Proof.Words
public import proofs.«01_k».proof.Proof.Counting
public import Idealize.ShloMosaic.Lib.StableHlo.ReadAt
public import Idealize.ShloMosaic.Lib.Pointwise
public import Idealize.ShloMosaic.Lib.PlanTiles.StableSort
public import Idealize.ShloMosaic.Lib.Routing.SortLink

@[expose] public section
set_option maxRecDepth 16384
noncomputable section
namespace Cert.Route

open Idealize.ShloMosaic

/-- A token's rank as a permutation. -/
def rankPerm (v : Fin 4096 → EReal) : Equiv.Perm (Fin 4096) :=
  Equiv.ofBijective (fun t => ⟨rank v t, rank_lt v t⟩)
    (Finite.injective_iff_bijective.mp fun a b h => rank_injective v (by simpa using h))

/-- A token's place as a permutation. -/
def placePerm (v : Fin 4096 → EReal) : Equiv.Perm (Fin 4096) :=
  Equiv.ofBijective (fun t => ⟨place v t, place_lt v t⟩)
    (Finite.injective_iff_bijective.mp fun a b h => place_injective v (by simpa using h))

theorem placePerm_val (v : Fin 4096 → EReal) (t : Fin 4096) : (placePerm v t).val = place v t := rfl

theorem rankPerm_val (v : Fin 4096 → EReal) (t : Fin 4096) : (rankPerm v t).val = rank v t := rfl

/-- The token of a place is the token of the rank half a length further. -/
theorem placePerm_symm (v : Fin 4096 → EReal) (q r : Fin 4096) (h : r.val = (q.val + 2048) % 4096) :
    (placePerm v).symm q = (rankPerm v).symm r := by
  rw [Equiv.symm_apply_eq]
  apply Fin.ext
  have : (rankPerm v ((rankPerm v).symm r)).val = r.val := by rw [Equiv.apply_symm_apply]
  rw [placePerm_val, place, ← rankPerm_val, this]
  omega

/-- How many tokens have a smaller value: a whole number in the order of the values. -/
def below (v : Fin 4096 → EReal) (t : Fin 4096) : ℕ := (Finset.univ.filter fun u => v u < v t).card

theorem below_lt (v : Fin 4096 → EReal) (a b : Fin 4096) : below v a < below v b ↔ v a < v b := by
  constructor
  · intro h
    by_contra hn
    exact absurd h (not_lt.mpr (Finset.card_le_card fun u hu =>
      Finset.mem_filter.mpr ⟨Finset.mem_univ _, lt_of_lt_of_le (Finset.mem_filter.mp hu).2 (not_lt.mp hn)⟩))
  · intro h
    refine Finset.card_lt_card ⟨fun u hu => ?_, fun hs => ?_⟩
    · exact Finset.mem_filter.mpr ⟨Finset.mem_univ _, (Finset.mem_filter.mp hu).2.trans h⟩
    · exact lt_irrefl _ (Finset.mem_filter.mp (hs (Finset.mem_filter.mpr ⟨Finset.mem_univ a, h⟩))).2

/-- A stable sort by descending whole numbers: of two positions the earlier holds the larger number, or the same number
    and the earlier entry. -/
theorem sorted_lex {n : ℕ} (g : Fin n → ℕ) {a b : Fin n} (h : a < b) :
    PlanTiles.Lex g (· < ·) (sortedFrom (fun a b => decide (g b < g a)) a) (sortedFrom (fun a b => decide (g b < g a)) b) :=
  List.pairwise_iff_get.mp (PlanTiles.pairwise_stableSort_lex g (· < ·) (List.finRange n) (List.pairwise_lt_finRange n))
    (a.cast (length_sortPositions n _).symm) (b.cast (length_sortPositions n _).symm) h

/-- An ascending map of `Fin n` to itself leaves every entry where it is. -/
theorem ascending_id {n : ℕ} (f : Fin n → Fin n) (hm : StrictMono f) (q : Fin n) : f q = q := by
  have h := Subsingleton.elim (hm.orderIsoOfSurjective f (Finite.injective_iff_surjective.mp hm.injective)) (OrderIso.refl _)
  exact congrArg (fun e => e q) h

/-- The stable sort by descending value holds at each position the token of that rank. -/
theorem sorted_rank (v : Fin 4096 → EReal) (q : Fin 4096) :
    sortedFrom (fun a b => decide (v b < v a)) q = (rankPerm v).symm q := by
  have e : (fun a b : Fin 4096 => decide (v b < v a)) = fun a b => decide (below v b < below v a) := by
    funext a b
    exact decide_eq_decide.mpr (below_lt v b a).symm
  rw [e, Equiv.eq_symm_apply]
  refine ascending_id (fun q => rankPerm v (sortedFrom (fun a b => decide (below v b < below v a)) q)) (fun a b hab => ?_) q
  have h := sorted_lex (below v) hab
  refine Fin.lt_def.mpr (rank_lt_of_ahead v ?_)
  generalize sortedFrom (fun a b => decide (below v b < below v a)) a = c at h ⊢
  generalize sortedFrom (fun a b => decide (below v b < below v a)) b = d at h ⊢
  rcases h with h | ⟨h, hl⟩
  · exact Or.inl ((below_lt v _ _).mp h)
  · refine Or.inr ⟨?_, hl⟩
    rcases lt_trichotomy (v c) (v d) with h1 | h1 | h1
    · exact absurd h ((below_lt v _ _).mpr h1).ne
    · exact h1
    · exact absurd h ((below_lt v _ _).mpr h1).ne'

/-- Sorting the tokens, listed by place, by their own numbers finds each token at its place. -/
theorem sorted_place (v : Fin 4096 → EReal) (t : Fin 4096) :
    sortedFrom (fun a b => decide (((placePerm v).symm a).val < ((placePerm v).symm b).val)) t = placePerm v t := by
  have h := Routing.sortedFrom_eq (fun a => ((placePerm v).symm a).val)
    (fun a b h => (placePerm v).symm.injective (Fin.ext h)) ((List.finRange 4096).map (placePerm v))
    (Equiv.Perm.map_finRange_perm _)
    (by
      rw [List.pairwise_map]
      exact (List.pairwise_lt_finRange 4096).imp fun {a b} h => by simpa using h)
    t (by simp)
  rw [h, List.getElem_map, List.getElem_finRange]
  rfl

end Cert.Route

namespace Cert.ReferenceIdeal.Hand

open Cert.ReferenceIdeal Cert.Route
open Idealize.ShloMosaic Idealize.ShloMosaic.TcCoe Idealize.ShloMosaic.Tactic

/-- The comparison of two float keys is the order of the numbers. -/
theorem before_f32 (l r : EReal × BitVec 32) :
    ((comparator_f32_i32_d0 (F := Ideal) l r) == 1#1) = decide (l.1 < r.1) := by
  have h0 : ∀ a : EReal, Scalar.select (FloatOps.cmpf (F := Ideal) (φ := .f32) .oeq a (FloatOps.ofBits .f32 0x00000000#32)) (FloatOps.ofBits (F := Ideal) .f32 0x00000000#32) a = a := by
    intro a
    by_cases h : a = (FloatOps.ofBits (F := Ideal) .f32 0x00000000#32)
    · rw [← h]; simp [Scalar.select]
    · have : FloatOps.cmpf (F := Ideal) (φ := .f32) .oeq a (FloatOps.ofBits .f32 0x00000000#32) = 0#1 := by
        rw [Ideal.cmpf_def]; simp only [Ideal.cmp, decide_eq_false h]; rfl
      rw [this]; rfl
  have h1 : ∀ a b : EReal, Scalar.select (FloatOps.cmpf (F := Ideal) (φ := .f32) .une a a) b a = a := by
    intro a b
    have : FloatOps.cmpf (F := Ideal) (φ := .f32) .une a a = 0#1 := by simp [Ideal.cmpf_def, Ideal.cmp]
    rw [this]; rfl
  unfold comparator_f32_i32_d0
  simp only [h0, h1, Ideal.cmpfTotal_def]
  show (BitVec.ofBool (decide (l.1 < r.1)) == 1#1) = decide (l.1 < r.1)
  cases decide (l.1 < r.1) <;> rfl

theorem before_i32 (l r : BitVec 32 × BitVec 32) :
    (comparator_i32_i32_d0 l r == 1#1) = l.1.slt r.1 := by
  unfold comparator_i32_i32_d0 IntOp.cmpi
  cases h : l.1.slt r.1 <;> simp [h]

end Cert.ReferenceIdeal.Hand
-- ==== Proof.RefCount.lean ====
/- The reference's running counts: the sum of a prefix of a column, and that the count of a token's expert up to its
   place is one more than its seat. -/
module

public import proofs.«01_k».proof.Proof.RefSort
public import Idealize.ShloMosaic.Lib.Routing.OpsPair
public import Idealize.ShloMosaic.Lib.Routing.Ops

@[expose] public section
set_option maxRecDepth 16384
noncomputable section
namespace Cert.Route

open Idealize.ShloMosaic

/-- Place `n` of a single column is its row `n`. -/
theorem column_place {N : ℕ} (n : Fin (⟨2, ![N, 1]⟩ : Shape).numel) (hn : n.val < N) :
    (⟨2, ![N, 1]⟩ : Shape).rowMajor.symm n = ix2 (⟨n.val, hn⟩ : Fin N) (0 : Fin 1) :=
  ((⟨2, ![N, 1]⟩ : Shape).rowMajor.symm_apply_eq).2 (Fin.ext (by
    rw [Shape.rowMajor_val_two]
    show n.val = n.val * 1 + 0
    omega))

/-- A window reaching back over all earlier rows sums the column's prefix. -/
theorem prefix_sum {N M E : ℕ} (hN : M + 1 = N) (x : IVec ⟨2, ![N, E]⟩ 32) (e : Fin E) (f : ℕ → ℕ)
    (hx : ∀ i : Fin N, x (ix2 i e) = BitVec.ofNat 32 (f i.val)) (init : IVec ⟨0, ![]⟩ 32) (hinit : init ix0 = 0#32)
    (h : (⟨2, ![N, E]⟩ : Shape).ReduceWindows (![N, 1] : Fin 2 → ℕ) ![1, 1] ![M, 0] ![0, 0] ⟨2, ![N, E]⟩)
    (hu : 0 < (⟨0, ![]⟩ : Shape).numel) (j : Fin N) :
    Host.reduceWindow IntOp.addi ![N, 1] ![1, 1] ![M, 0] ![0, 0] x init h hu (ix2 j e) = BitVec.ofNat 32 ((List.range (j.val + 1)).map f).sum := by
  subst hN
  have hv : init (Shape.Idx.first hu) = BitVec.ofNat 32 0 := (congrArg init (funext fun a => a.elim0)).trans hinit
  have hj := j.isLt
  have hnum : (⟨2, ![M + 1, 1]⟩ : Shape).numel = M + 1 := by
    show ∏ a : Fin 2, (![M + 1, 1] : Fin 2 → ℕ) a = M + 1
    rw [Fin.prod_univ_two]
    exact Nat.mul_one _
  unfold Host.reduceWindow
  refine (Routing.foldl_addi_ofNat _ _ (fun n => if M ≤ j.val + n.val then f (j.val + n.val - M) else 0) (fun n _ => ?_) _ 0 hv).trans ?_
  · have hn : n.val < M + 1 := (n.cast hnum).isLt
    have hw0 : ((⟨2, ![M + 1, 1]⟩ : Shape).rowMajor.symm n 0).val = n.val := by rw [column_place n hn]; rfl
    have hw1 : ((⟨2, ![M + 1, 1]⟩ : Shape).rowMajor.symm n 1).val = 0 := by rw [column_place n hn]; rfl
    dsimp only
    split
    · next hin =>
      have h0 := hin 0
      change M ≤ j.val * 1 + ((⟨2, ![M + 1, 1]⟩ : Shape).rowMajor.symm n 0).val
        ∧ j.val * 1 + ((⟨2, ![M + 1, 1]⟩ : Shape).rowMajor.symm n 0).val - M < M + 1 at h0
      rw [hw0] at h0
      rw [if_pos (by omega)]
      refine (congrArg x (funext fun a => Fin.ext ?_)).trans (hx ⟨j.val + n.val - M, by omega⟩)
      match a with
      | ⟨0, _⟩ =>
        show j.val * 1 + ((⟨2, ![M + 1, 1]⟩ : Shape).rowMajor.symm n 0).val - M = j.val + n.val - M
        rw [hw0, Nat.mul_one]
      | ⟨1, _⟩ =>
        show e.val * 1 + ((⟨2, ![M + 1, 1]⟩ : Shape).rowMajor.symm n 1).val - 0 = e.val
        rw [hw1]
        omega
    · next hin =>
      rw [if_neg fun hle => hin fun a => by
        match a with
        | ⟨0, _⟩ =>
          show M ≤ j.val * 1 + ((⟨2, ![M + 1, 1]⟩ : Shape).rowMajor.symm n 0).val
            ∧ j.val * 1 + ((⟨2, ![M + 1, 1]⟩ : Shape).rowMajor.symm n 0).val - M < M + 1
          rw [hw0]
          omega
        | ⟨1, _⟩ =>
          show 0 ≤ e.val * 1 + ((⟨2, ![M + 1, 1]⟩ : Shape).rowMajor.symm n 1).val ∧ e.val * 1 + ((⟨2, ![M + 1, 1]⟩ : Shape).rowMajor.symm n 1).val - 0 < E
          rw [hw1]
          have := e.isLt
          omega]
      exact hv
  · rw [Nat.zero_add, Routing.map_finRange_val _ (fun w => if M ≤ j.val + w then f (j.val + w - M) else 0), hnum]
    exact congrArg _ (Routing.sum_window f M j.val (by omega))

theorem sum_range_list (f : ℕ → ℕ) (n : ℕ) : ((List.range n).map f).sum = ∑ i ∈ Finset.range n, f i := by
  induction n with
  | zero => rfl
  | succ n ih => rw [List.range_succ, List.map_append, List.sum_append, ih, Finset.sum_range_succ]; simp

/-- Whether the token at place `i` chose expert `e`. -/
def hitAt (v : Fin 4096 → EReal) (a : Fin 4096 → Fin 64) (e : Fin 64) (i : ℕ) : ℕ :=
  if h : i < 4096 then if a ((placePerm v).symm ⟨i, h⟩) = e then 1 else 0 else 0

/-- Up to and with a token's place its expert is chosen once more than the token's seat says. -/
theorem seat_succ (v : Fin 4096 → EReal) (a : Fin 4096 → Fin 64) (t : Fin 4096) :
    ((List.range ((placePerm v t).val + 1)).map (hitAt v a (a t))).sum = seat a (place v) t + 1 := by
  rw [sum_range_list, Finset.sum_range_succ]
  congr 1
  · have hp := (placePerm v t).isLt
    have e1 : Finset.range (placePerm v t).val = (Finset.range 4096).filter fun i => i < (placePerm v t).val := by
      ext i
      simp only [Finset.mem_range, Finset.mem_filter]
      omega
    rw [e1, Finset.sum_filter, Finset.sum_range, seat, Finset.card_filter, ← Equiv.sum_comp (placePerm v)]
    refine Finset.sum_congr rfl fun u _ => ?_
    have e2 : hitAt v a (a t) (placePerm v u).val = if a u = a t then 1 else 0 := by
      unfold hitAt
      rw [dif_pos (placePerm v u).isLt]
      rw [Fin.eta, Equiv.symm_apply_apply]
    rw [e2]
    show (if place v u < place v t then _ else 0) = _
    by_cases h1 : place v u < place v t <;> by_cases h2 : a u = a t <;> simp [h1, h2]
  · unfold hitAt
    rw [dif_pos (placePerm v t).isLt, Fin.eta, Equiv.symm_apply_apply, if_pos rfl]

end Cert.Route
-- ==== Proof.Numbers.lean ====
/- The real numbers the programs' float constants are. -/
module

public import Idealize.ShloMosaic.PureOps.Ideal.Laws

@[expose] public section
noncomputable section
namespace Cert.Route

open Idealize.ShloMosaic

theorem f32_neg_one : Ideal.ofBits .f32 3212836864#32 = -1 := by
  have h : Ideal.ofBits .f32 3212836864#32 = ((-1 : ℝ) : EReal) := by
    simp only [Ideal.ofBits, Ideal.ieee]
    simp [← EReal.coe_mul]
    try norm_num
  rw [h]; rfl

theorem f32_4096 : Ideal.ofBits .f32 1166016512#32 = ((4096 : ℝ) : EReal) := by
  simp [Ideal.ofBits, Ideal.ieee, ← EReal.coe_mul]
  try norm_num

theorem f32_64 : Ideal.ofBits .f32 1115684864#32 = ((64 : ℝ) : EReal) := by
  simp [Ideal.ofBits, Ideal.ieee, ← EReal.coe_mul]
  try norm_num

theorem f32_loss : Ideal.ofBits .f32 857986826#32 = ((10737418 / 2 ^ 48 : ℝ) : EReal) := by
  simp [Ideal.ofBits, Ideal.ieee, ← EReal.coe_mul]
  try norm_num

theorem f32_weight : Ideal.ofBits .f32 1008981770#32 = ((10737418 / 2 ^ 30 : ℝ) : EReal) := by
  simp [Ideal.ofBits, Ideal.ieee, ← EReal.coe_mul]
  try norm_num

end Cert.Route
-- ==== Proof.RefLoss.lean ====
/- The balancing loss: the reference's mean of gates times mean of choices, summed over the experts and weighted, is the
   kernel's sum of products of totals times one constant. -/
module

public import proofs.«01_k».proof.Proof.RefRun
public import proofs.«01_k».proof.Proof.Words
public import proofs.«01_k».proof.Proof.Numbers
public import Idealize.ShloMosaic.Lib.StableHlo.ReadAt
public import Idealize.ShloMosaic.Lib.Pointwise

@[expose] public section
set_option maxRecDepth 16384
noncomputable section
namespace Cert.Route

open Idealize.ShloMosaic

/-- A nonnegative real factor leaves a sum. -/
theorem sum_mul_real {ι : Type} (s : Finset ι) (f : ι → EReal) {k : ℝ} (hk : 0 ≤ k) : ∑ i ∈ s, f i * (k : EReal) = (∑ i ∈ s, f i) * (k : EReal) := by
  classical
  induction s using Finset.induction_on with
  | empty => simp
  | insert a s ha ih =>
    rw [Finset.sum_insert ha, Finset.sum_insert ha, ih, mul_comm (f a), mul_comm _ (k : EReal), mul_comm _ (k : EReal)]
    exact (EReal.left_distrib_of_nonneg_of_ne_top (EReal.coe_nonneg.mpr hk) (EReal.coe_ne_top k) _ _).symm

/-- The two ways of weighting the loss. -/
theorem loss_eq (p q : Fin 64 → EReal) :
    (∑ e, Ideal.div (p e) (Ideal.ofBits .f32 1166016512#32) * Ideal.div (q e) (Ideal.ofBits .f32 1166016512#32))
        * Ideal.ofBits .f32 1115684864#32 * Ideal.ofBits .f32 1008981770#32
      = (∑ e, p e * q e) * Ideal.ofBits .f32 857986826#32 := by
  rw [f32_4096, f32_64, f32_weight, f32_loss]
  have h : ∀ e, Ideal.div (p e) ((4096 : ℝ) : EReal) * Ideal.div (q e) ((4096 : ℝ) : EReal) = p e * q e * ((1 / 4096 * (1 / 4096) : ℝ) : EReal) := fun e => by
    rw [Ideal.div_coe (by norm_num), Ideal.div_coe (by norm_num), mul_mul_mul_comm, ← EReal.coe_mul]
  simp only [h]
  rw [sum_mul_real _ _ (by norm_num), mul_assoc, mul_assoc, ← EReal.coe_mul, ← EReal.coe_mul]
  congr 2
  norm_num

/-- A sum over 128 lanes of which only the first 64 hold anything. -/
theorem sum_lanes (f : Fin 128 → EReal) (g : Fin 64 → EReal) (h : ∀ e : Fin 64, f ⟨e.val, by omega⟩ = g e)
    (h0 : ∀ e : Fin 128, 64 ≤ e.val → f e = 0) : ∑ e, f e = ∑ e, g e := by
  refine (Fin.sum_univ_add (a := 64) (b := 64) f).trans ?_
  rw [Finset.sum_eq_zero (s := Finset.univ) (f := fun i : Fin 64 => f (Fin.natAdd 64 i)) fun i _ => h0 _ (by simp), add_zero]
  exact Finset.sum_congr rfl fun e _ => h e

end Cert.Route

namespace Cert.ReferenceIdeal.Hand

open Cert.ReferenceIdeal Cert.Route
open Idealize.ShloMosaic Idealize.ShloMosaic.TcCoe Idealize.ShloMosaic.Tactic

variable (V : Valuation τ sig (Elt Ideal))

/-- A flag's word as a number. -/
theorem flag_number (p : Prop) [Decidable p] : FloatOps.sitofp (F := Ideal) .f32 (if p then 1#32 else 0#32) = if p then (1 : EReal) else 0 := by
  split <;> simp [FloatOps.sitofp]

/-- The loss. -/
theorem v24_value (g : Fin 4096 → Fin 64 → EReal) (a : Fin 4096 → Fin 64)
    (hg : ∀ t e, (V main_v11 : Vec Ideal S4096x64 .f32) (ix2 t e) = g t e)
    (h : ∀ t e, (V main_v13 : Vec Ideal S4096x64 .i32) (ix2 t e) = if a t = e then 1#32 else 0#32) :
    (StableHlo.after ops2 V main_v24 : Vec Ideal S_ .f32) ix0
      = (∑ e : Fin 64, (∑ t : Fin 4096, g t e) * (∑ t : Fin 4096, if a t = e then (1 : EReal) else 0))
        * Ideal.ofBits .f32 857986826#32 := by
  refine Eq.trans ?_ (loss_eq _ _)
  have hf : ∀ t e, FloatOps.sitofp (F := Ideal) .f32 ((V main_v13 : Vec Ideal S4096x64 .i32) (ix2 t e)) = if a t = e then (1 : EReal) else 0 :=
    fun t e => by rw [h, flag_number]
  simp only [← hf, ← hg]
  unfold ops2
  after_reads_at

end Cert.ReferenceIdeal.Hand
-- ==== Proof.RefStages.lean ====
/- The reference from the order of service to its tables: each token's expert row fetched by place, the running count,
   the seat fetched back by token, and the masked gates and slots. -/
module

public import proofs.«01_k».proof.Proof.RefCount
public import proofs.«01_k».proof.Proof.RefLoss

@[expose] public section
set_option maxRecDepth 16384
noncomputable section
namespace Cert.ReferenceIdeal.Hand

open Cert.ReferenceIdeal Cert.Route
open Idealize.ShloMosaic Idealize.ShloMosaic.TcCoe Idealize.ShloMosaic.Tactic

/-- A small word is not wrapped around. -/
theorem wrap_small (n : ℕ) (hn : n < 4096) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- A row fetched by number. -/
theorem fetch_row (x : IVec S4096x64 32) (ix : IVec S4096x1 32) (c b : Fin 4096) (e : Fin 64) (hb : ix (ix2 c (0 : Fin 1)) = BitVec.ofNat 32 b.val) :
    Host.gather gather_S4096x64_S4096x1_S4096x64_1_0_n_n_0_1_164 x ix (ix2 c e) = x (ix2 b e) :=
  Routing.gather_row _ rfl rfl rfl rfl rfl x ix c e b hb (by norm_num)

variable (V : Valuation τ sig (Elt Ideal)) (v : Fin 4096 → EReal) (a : Fin 4096 → Fin 64)

/-- The token numbers, wrapped, as a column. -/
theorem column_read (w : IVec S4096 32) (q b : Fin 4096) (h : w (ix1 q) = BitVec.ofNat 32 b.val) :
    (broadcastInDim S4096x1 ![0] Facts₀.bcast_S4096_S4096x1_0
      (select (cmpi .slt w (broadcastInDim S4096 ![] Facts₀.bcast_S_S4096 (constantI S_ 32 0#32)))
        (addi w (broadcastInDim S4096 ![] Facts₀.bcast_S_S4096 (constantI S_ 32 4096#32))) w) : IVec S4096x1 32) (ix2 q (0 : Fin 1))
      = BitVec.ofNat 32 b.val := by
  pointwise
  rw [h]
  exact wrap_small b.val b.isLt _

/-- The expert row of the token at place `q`. -/
theorem v37_value (h13 : ∀ t e, (V main_v13 : Vec Ideal S4096x64 .i32) (ix2 t e) = if a t = e then 1#32 else 0#32)
    (h29 : ∀ q, (V main_v29 : Vec Ideal S4096 .i32) (ix1 q) = BitVec.ofNat 32 ((placePerm v).symm q).val) (q : Fin 4096) (e : Fin 64) :
    (StableHlo.after ops5 V main_v37 : Vec Ideal S4096x64 .i32) (ix2 q e) = if a ((placePerm v).symm q) = e then 1#32 else 0#32 := by
  unfold ops5
  after_reads_at
  refine (fetch_row _ _ q ((placePerm v).symm q) e (column_read _ q _ (h29 q))).trans (h13 _ _)

/-- The running count of an expert's choices, by place. -/
theorem v38_value (h13 : ∀ t e, (V main_v13 : Vec Ideal S4096x64 .i32) (ix2 t e) = if a t = e then 1#32 else 0#32)
    (h29 : ∀ q, (V main_v29 : Vec Ideal S4096 .i32) (ix1 q) = BitVec.ofNat 32 ((placePerm v).symm q).val) (q : Fin 4096) (e : Fin 64) :
    (StableHlo.after ops5 V main_v38 : Vec Ideal S4096x64 .i32) (ix2 q e) = BitVec.ofNat 32 ((List.range (q.val + 1)).map (hitAt v a e)).sum := by
  unfold ops5
  after_reads_at
  refine prefix_sum (N := 4096) (M := 4095) rfl _ e (hitAt v a e) (fun i => ?_) _ rfl _ _ q
  refine (fetch_row _ _ i ((placePerm v).symm i) e (column_read _ i _ (h29 i))).trans ((h13 _ _).trans ?_)
  unfold hitAt
  rw [dif_pos i.isLt, Fin.eta]
  split <;> rfl

/-- The seat of a token stands in its expert's column; the other columns hold zero. -/
theorem v48_value (h37 : ∀ q e, (V main_v37 : Vec Ideal S4096x64 .i32) (ix2 q e) = if a ((placePerm v).symm q) = e then 1#32 else 0#32)
    (h38 : ∀ q e, (V main_v38 : Vec Ideal S4096x64 .i32) (ix2 q e) = BitVec.ofNat 32 ((List.range (q.val + 1)).map (hitAt v a e)).sum)
    (h30 : ∀ t, (V main_v30 : Vec Ideal S4096 .i32) (ix1 t) = BitVec.ofNat 32 (place v t)) (t : Fin 4096) (e : Fin 64) :
    (StableHlo.after ops6 V main_v48 : Vec Ideal S4096x64 .i32) (ix2 t e) = if a t = e then BitVec.ofNat 32 (seat a (place v) t) else 0#32 := by
  unfold ops6
  after_reads_at
  refine (fetch_row _ _ t (placePerm v t) e (column_read _ t _ (h30 t))).trans ?_
  show IntOp.muli (IntOp.subi ((V main_v38 : Vec Ideal S4096x64 .i32) (ix2 (placePerm v t) e)) 1#32) ((V main_v37 : Vec Ideal S4096x64 .i32) (ix2 (placePerm v t) e)) = _
  rw [h37, h38, Equiv.symm_apply_apply]
  by_cases h : a t = e
  · subst h
    rw [if_pos rfl, if_pos rfl, seat_succ, BitVec.ofNat_add]
    simp [IntOp.muli, IntOp.subi]
  · rw [if_neg h, if_neg h]
    simp [IntOp.muli]

/-- A sum of words that hold whole numbers holds their sum. -/
theorem fold_numbers {ι : Type} (s : Finset ι) (f : ι → ℕ) :
    s.fold IntOp.addi 0#32 (fun x => BitVec.ofNat 32 (f x)) = BitVec.ofNat 32 (∑ x ∈ s, f x) := by
  classical
  induction s using Finset.induction_on with
  | empty => simp
  | insert i s hi ih => rw [Finset.fold_insert hi, ih, Finset.sum_insert hi, BitVec.ofNat_add]; rfl

/-- Whether a token keeps its place at its expert, as a word. -/
theorem kept_word (t : Fin 4096) (e : Fin 64) (st : ℕ) (hs : st < 4096) :
    IntOp.muli (if a t = e then 1#32 else 0#32) (BitVec.setWidth 32 (IntOp.cmpi .slt (if a t = e then BitVec.ofNat 32 st else 0#32) 64#32))
      = if a t = e ∧ st < 64 then 1#32 else 0#32 := by
  by_cases h : a t = e
  · have hc : IntOp.cmpi .slt (BitVec.ofNat 32 st) 64#32 = BitVec.ofBool (decide (st < 64)) :=
      congrArg BitVec.ofBool (Cert.KernelIdeal.Hand.slt_nat (a := st) (b := 64) (by omega) (by omega))
    rw [if_pos h, if_pos h, hc]
    by_cases h2 : st < 64 <;> simp [h, h2, IntOp.muli]
  · simp [h, IntOp.muli]

section
variable (g : Fin 4096 → Fin 64 → EReal) (st : Fin 4096 → ℕ)

/-- The gate of a token at its expert, where it has a place there. -/
theorem v56_value (hst : ∀ t, st t < 4096) (hg : ∀ t e, (V main_v11 : Vec Ideal S4096x64 .f32) (ix2 t e) = g t e)
    (h13 : ∀ t e, (V main_v13 : Vec Ideal S4096x64 .i32) (ix2 t e) = if a t = e then 1#32 else 0#32)
    (h48 : ∀ t e, (V main_v48 : Vec Ideal S4096x64 .i32) (ix2 t e) = if a t = e then BitVec.ofNat 32 (st t) else 0#32) (t : Fin 4096) (e : Fin 64) :
    (StableHlo.after ops7 V main_v56 : Vec Ideal S4096x64 .f32) (ix2 t e) = if a t = e ∧ st t < 64 then g t e else 0 := by
  have h : (StableHlo.after ops7 V main_v56 : Vec Ideal S4096x64 .f32) (ix2 t e)
      = g t e * FloatOps.sitofp (F := Ideal) .f32 (if a t = e ∧ st t < 64 then 1#32 else 0#32) := by
    rw [← kept_word a t e (st t) (hst t), ← h13, ← h48, ← hg]
    unfold ops7
    after_reads_at
  rw [h, flag_number]
  split
  · exact mul_one (g t e)
  · exact mul_zero (g t e)

/-- The slot of a token, as a one-hot row; a token without a place has slot zero. -/
theorem v57_value (hst : ∀ t, st t < 4096)
    (h13 : ∀ t e, (V main_v13 : Vec Ideal S4096x64 .i32) (ix2 t e) = if a t = e then 1#32 else 0#32)
    (h48 : ∀ t e, (V main_v48 : Vec Ideal S4096x64 .i32) (ix2 t e) = if a t = e then BitVec.ofNat 32 (st t) else 0#32) (t : Fin 4096) (k : Fin 64) :
    (StableHlo.after ops7 V main_v57 : Vec Ideal S4096x64 .f32) (ix2 t k) = if (if st t < 64 then st t else 0) = k.val then (1 : EReal) else (0 : EReal) := by
  have h : (StableHlo.after ops7 V main_v57 : Vec Ideal S4096x64 .f32) (ix2 t k)
      = FloatOps.uitofp (F := Ideal) .f32 (IntOp.cmpi .eq (BitVec.ofNat 32 (if st t < 64 then st t else 0)) (BitVec.ofNat 32 k.val)) := by
    have hw : ∀ x : Fin 64, IntOp.muli ((V main_v48 : Vec Ideal S4096x64 .i32) (ix2 t x)) (IntOp.muli ((V main_v13 : Vec Ideal S4096x64 .i32) (ix2 t x))
        (BitVec.setWidth 32 (IntOp.cmpi .slt ((V main_v48 : Vec Ideal S4096x64 .i32) (ix2 t x)) 64#32)))
        = BitVec.ofNat 32 (if a t = x then if st t < 64 then st t else 0 else 0) := fun x => by
      rw [h13, h48, kept_word a t x (st t) (hst t)]
      by_cases h1 : a t = x <;> by_cases h2 : st t < 64 <;> simp [h1, h2, IntOp.muli]
    have hf : (Finset.univ.fold IntOp.addi 0#32 fun x : Fin 64 => BitVec.ofNat 32 (if a t = x then if st t < 64 then st t else 0 else 0))
        = BitVec.ofNat 32 (if st t < 64 then st t else 0) := by
      rw [fold_numbers, Finset.sum_ite_eq, if_pos (Finset.mem_univ _)]
    rw [← hf]
    simp only [← hw]
    unfold ops7
    after_reads_at
  rw [h]
  have hb := Cert.KernelIdeal.Hand.ofNat_inj (a := if st t < 64 then st t else 0) (b := k.val) (by split <;> omega) (by omega)
  generalize (if st t < 64 then st t else 0) = m at hb ⊢
  by_cases hm : m = k.val
  · subst hm; simp [IntOp.cmpi, FloatOps.uitofp]
  · have hn : (BitVec.ofNat 32 m == BitVec.ofNat 32 k.val) = false := beq_eq_false_iff_ne.mpr fun h' => hm (hb.mp h')
    simp [IntOp.cmpi, FloatOps.uitofp, hm, hn]

end

/-- The combine weights are the product of the two tables. -/
theorem v62_value (t : Fin 4096) (e k : Fin 64) : (StableHlo.after ops8 V main_v62 : Vec Ideal S4096x64x64 .f32) (ix3 t e k)
    = HMul.hMul (α := EReal) ((V main_v56 : Vec Ideal S4096x64 .f32) (ix2 t e)) ((V main_v57 : Vec Ideal S4096x64 .f32) (ix2 t k)) := by
  unfold ops8
  after_reads_at

/-- The dispatch mask says where that product is not zero. -/
theorem v64_value (t : Fin 4096) (e k : Fin 64) : (StableHlo.after ops8 V main_v64 : Vec Ideal S4096x64x64 .i1) (ix3 t e k)
    = BitVec.ofBool (decide (HMul.hMul (α := EReal) ((V main_v56 : Vec Ideal S4096x64 .f32) (ix2 t e)) ((V main_v57 : Vec Ideal S4096x64 .f32) (ix2 t k)) ≠ 0)) := by
  unfold ops8
  after_reads_at

end Cert.ReferenceIdeal.Hand
-- ==== Proof.RefOrder.lean ====
/- The order of service in the reference, read from its two sorts. -/
module

public import proofs.«01_k».proof.Proof.RefSort

@[expose] public section
set_option maxRecDepth 16384
noncomputable section
namespace Cert.ReferenceIdeal.Hand

open Cert.ReferenceIdeal Cert.Route
open Idealize.ShloMosaic Idealize.ShloMosaic.TcCoe Idealize.ShloMosaic.Tactic

/-- A sort of a row carrying a second row: what that row holds at a position. -/
theorem sort2_second {n : ℕ} {α β : Type} (cmp : α × β → α × β → BitVec 1) (x : (⟨1, ![n]⟩ : Shape).Idx → α)
    (y : (⟨1, ![n]⟩ : Shape).Idx → β) (before : Fin n → Fin n → Bool) (f : Fin n → β)
    (hb : ∀ a b, (cmp (x (ix1 a), y (ix1 a)) (x (ix1 b), y (ix1 b)) == 1#1) = before a b) (hy : ∀ a, y (ix1 a) = f a) (q : Fin n) :
    (Host.sort2 ⟨1, ![n]⟩ 0 cmp x y).2 (ix1 q) = f (sortedFrom before q) := by
  have hd : 0 < (⟨1, ![n]⟩ : Shape).rank := Nat.zero_lt_one
  have e : ∀ (j : (⟨1, ![n]⟩ : Shape).Idx) (c : Fin n), j.along (⟨0, hd⟩ : Fin (⟨1, ![n]⟩ : Shape).rank) c = ix1 c := fun j c =>
    (Shape.Idx.along_rank1 j c).trans (Routing.ofFin_eq_ix1 c)
  unfold Host.sort2
  rw [dif_pos hd, ← hy]
  show y ((ix1 q : (⟨1, ![n]⟩ : Shape).Idx).along ⟨0, hd⟩ _) = _
  refine (congrArg y (e _ _)).trans ?_
  refine congrArg (fun c => y (ix1 c)) ?_
  show sortedFrom (n := n) _ q = _
  congr 1
  funext a b
  refine Eq.trans ?_ (hb a b)
  exact congrArg (· == 1#1) (congrArg₂ cmp (congrArg (fun i => (x i, y i)) (e _ a)) (congrArg (fun i => (x i, y i)) (e _ b)))

section
variable {F : FTy → Type} [FloatOps F] [Facts]
open Facts₀ Facts

/-- The first sort. -/
def ops4a : List (HloOp τ sig (Elt F)) := [
  StableHlo.TRef.nullary main_call2.v0 (iotaInDim S4096 32 0),
  StableHlo.TRef.binary (.of main_v27 : StableHlo.TRef sig ⟨S4096, .f32⟩) main_call2.v0 main_call2.v1_0 (fun x y => (Host.sort2 S4096 0 comparator_f32_i32_d0 x y).1),
  StableHlo.TRef.binary (.of main_v27 : StableHlo.TRef sig ⟨S4096, .f32⟩) main_call2.v0 main_call2.v1_1 (fun x y => (Host.sort2 S4096 0 comparator_f32_i32_d0 x y).2)]

/-- The two halves. -/
def ops4b : List (HloOp τ sig (Elt F)) := [
  StableHlo.TRef.unary (.of main_v28 : StableHlo.TRef sig ⟨S4096, .i32⟩) main_call3.v0 (extractStridedSlice S2048 ![2048] · slices_S4096_S2048_2048),
  StableHlo.TRef.unary (.of main_v28 : StableHlo.TRef sig ⟨S4096, .i32⟩) main_call3.v1 (extractStridedSlice S2048 ![0] · slices_S4096_S2048_0)]

/-- The roll. -/
def ops4c : List (HloOp τ sig (Elt F)) := [
  StableHlo.TRef.binary main_call3.v0 main_call3.v1 main_call3.v2 (fun a b => concatenate S4096 0 [⟨S2048, a⟩, ⟨S2048, b⟩] concatenates_S2048_S2048_S4096_d0)]

/-- The second sort. -/
def ops4d : List (HloOp τ sig (Elt F)) := [
  StableHlo.TRef.nullary main_call4.v0 (iotaInDim S4096 32 0),
  StableHlo.TRef.binary (.of main_v29 : StableHlo.TRef sig ⟨S4096, .i32⟩) main_call4.v0 main_call4.v1_0 (fun x y => (Host.sort2 S4096 0 comparator_i32_i32_d0 x y).1),
  StableHlo.TRef.binary (.of main_v29 : StableHlo.TRef sig ⟨S4096, .i32⟩) main_call4.v0 main_call4.v1_1 (fun x y => (Host.sort2 S4096 0 comparator_i32_i32_d0 x y).2)]

theorem ops4_split : (ops4 : List (HloOp τ sig (Elt F))) = ops4a ++ (ops4b ++ (ops4c ++ ops4d)) := rfl
end

variable (V : Valuation τ sig (Elt Ideal))

theorem read_v28 : (StableHlo.after ops4a V main_v28 : Vec Ideal S4096 .i32)
    = (Host.sort2 S4096 0 (comparator_f32_i32_d0 (F := Ideal)) (V main_v27 : Vec Ideal S4096 .f32) (iotaInDim S4096 32 0)).2 := by
  unfold ops4a
  after_reads_at

theorem read_low : (StableHlo.after ops4b V main_call3.v0.ref : Vec Ideal S2048 .i32)
    = extractStridedSlice S2048 ![2048] (V main_v28 : Vec Ideal S4096 .i32) Facts₀.slices_S4096_S2048_2048 := by
  unfold ops4b
  after_reads_at

theorem read_high : (StableHlo.after ops4b V main_call3.v1.ref : Vec Ideal S2048 .i32)
    = extractStridedSlice S2048 ![0] (V main_v28 : Vec Ideal S4096 .i32) Facts₀.slices_S4096_S2048_0 := by
  unfold ops4b
  after_reads_at

theorem read_v29 : (StableHlo.after ops4c V main_v29 : Vec Ideal S4096 .i32)
    = concatenate S4096 0 [⟨S2048, (V main_call3_v0 : Vec Ideal S2048 .i32)⟩, ⟨S2048, (V main_call3_v1 : Vec Ideal S2048 .i32)⟩]
      Facts₀.concatenates_S2048_S2048_S4096_d0 := by
  unfold ops4c
  after_reads_at
  rfl

theorem read_v30 : (StableHlo.after ops4d V main_v30 : Vec Ideal S4096 .i32)
    = (Host.sort2 S4096 0 comparator_i32_i32_d0 (V main_v29 : Vec Ideal S4096 .i32) (iotaInDim S4096 32 0)).2 := by
  unfold ops4d
  after_reads_at

variable {V} {v : Fin 4096 → EReal}

/-- The first sort holds at each position the token of that rank. -/
theorem v28_value (h : ∀ t, (V main_v27 : Vec Ideal S4096 .f32) (ix1 t) = -(v t)) (q : Fin 4096) :
    (StableHlo.after ops4a V main_v28 : Vec Ideal S4096 .i32) (ix1 q) = BitVec.ofNat 32 ((rankPerm v).symm q).val := by
  refine (congrFun (read_v28 V) (ix1 q)).trans ?_
  refine (sort2_second _ _ _ (fun a b => decide (v b < v a)) (fun a => BitVec.ofNat 32 a.val) (fun a b => ?_) (fun a => rfl) q).trans ?_
  · refine (before_f32 _ _).trans (decide_eq_decide.mpr ?_)
    refine Iff.trans (Iff.of_eq (congrArg₂ (fun p q : EReal => p < q) (h a) (h b))) ?_
    exact EReal.neg_lt_neg_iff
  · exact congrArg (fun c : Fin 4096 => BitVec.ofNat 32 c.val) (sorted_rank v q)

/-- The roll holds at each position the token of that place. -/
theorem v29_value (h : ∀ q, (V main_v28 : Vec Ideal S4096 .i32) (ix1 q) = BitVec.ofNat 32 ((rankPerm v).symm q).val) (q : Fin 4096) :
    (StableHlo.after ops4c (StableHlo.after ops4b V) main_v29 : Vec Ideal S4096 .i32) (ix1 q) = BitVec.ofNat 32 ((placePerm v).symm q).val := by
  refine (congrFun (read_v29 _) (ix1 q)).trans ?_
  by_cases hq : q.val < 2048
  · refine (concatenate_pair_apply_left (t := S4096) (s₁ := S2048) (s₂ := S2048) 0 _ _ _ (ix1 q) rfl (ix1 ⟨q.val, hq⟩)
      (fun b => by obtain rfl : b = 0 := Subsingleton.elim _ _; rfl)).trans ?_
    refine (congrFun (read_low V) _).trans ?_
    rw [placePerm_symm v q ⟨q.val + 2048, by omega⟩ (by show q.val + 2048 = (q.val + 2048) % 4096; omega), ← h]
    refine (extractStridedSlice_apply _ _ _ _ (ix1 (⟨q.val + 2048, by omega⟩ : Fin 4096)) fun b => ?_)
    obtain rfl : b = 0 := Subsingleton.elim _ _
    exact Nat.add_comm _ _
  · refine (concatenate_pair_apply_right (t := S4096) (s₁ := S2048) (s₂ := S2048) 0 _ _ _ (ix1 q) rfl rfl (ix1 ⟨q.val - 2048, by omega⟩)
      (fun b hb => absurd (Subsingleton.elim _ _) hb) (by show q.val - 2048 + 2048 = q.val; omega)).trans ?_
    refine (congrFun (read_high V) _).trans ?_
    rw [placePerm_symm v q ⟨q.val - 2048, by omega⟩ (by show q.val - 2048 = (q.val + 2048) % 4096; omega), ← h]
    refine (extractStridedSlice_apply _ _ _ _ (ix1 (⟨q.val - 2048, by omega⟩ : Fin 4096)) fun b => ?_)
    obtain rfl : b = 0 := Subsingleton.elim _ _
    exact (Nat.zero_add _).symm

/-- The second sort holds at each token its place. -/
theorem v30_value (h : ∀ q, (V main_v29 : Vec Ideal S4096 .i32) (ix1 q) = BitVec.ofNat 32 ((placePerm v).symm q).val) (t : Fin 4096) :
    (StableHlo.after ops4d V main_v30 : Vec Ideal S4096 .i32) (ix1 t) = BitVec.ofNat 32 (place v t) := by
  refine (congrFun (read_v30 V) (ix1 t)).trans ?_
  refine (sort2_second _ _ _ (fun a b => decide (((placePerm v).symm a).val < ((placePerm v).symm b).val)) (fun a => BitVec.ofNat 32 a.val)
    (fun a b => ?_) (fun a => rfl) t).trans ?_
  · refine (before_i32 _ _).trans ?_
    show BitVec.slt ((V main_v29 : Vec Ideal S4096 .i32) (ix1 a)) ((V main_v29 : Vec Ideal S4096 .i32) (ix1 b)) = _
    rw [h, h]
    have ha := ((placePerm v).symm a).isLt
    have hb := ((placePerm v).symm b).isLt
    exact Cert.KernelIdeal.Hand.slt_nat (by omega) (by omega)
  · exact congrArg (fun c : Fin 4096 => BitVec.ofNat 32 c.val) (sorted_place v t)

end Cert.ReferenceIdeal.Hand
-- ==== Proof.RefGates.lean ====
/- The reference's gates, each token's expert as its word-valued one-hot row, and its sort key. -/
module

public import proofs.«01_k».proof.Proof.RefRun
public import proofs.«01_k».proof.Proof.Words
public import proofs.«01_k».proof.Proof.Counting
public import Idealize.ShloMosaic.Lib.StableHlo.ReadAt
public import Idealize.ShloMosaic.Lib.Pointwise

@[expose] public section
set_option maxRecDepth 16384
noncomputable section
namespace Cert.ReferenceIdeal.Hand

open Cert.ReferenceIdeal Cert.Route
open Idealize.ShloMosaic Idealize.ShloMosaic.TcCoe Idealize.ShloMosaic.Tactic

/-- One step of the search for the first largest: it keeps the larger value, and of two equal the earlier place. -/
theorem search_step (a b : EReal × BitVec 32) :
    reducer_argmax_f32_i32 (F := Ideal) a b = if b.1 < a.1 ∨ (a.1 = b.1 ∧ a.2.slt b.2 = true) then a else b := by
  rcases a with ⟨x, i⟩
  rcases b with ⟨y, k⟩
  have hn : FloatOps.cmpf (F := Ideal) (φ := .f32) .une x x = 0#1 := by simp [Ideal.cmpf_def, Ideal.cmp]
  have hg : FloatOps.cmpf (F := Ideal) (φ := .f32) .ogt x y = BitVec.ofBool (decide (y < x)) := rfl
  have he : FloatOps.cmpf (F := Ideal) (φ := .f32) .oeq x y = BitVec.ofBool (decide (x = y)) := rfl
  have hl : IntOp.cmpi .slt i k = BitVec.ofBool (i.slt k) := rfl
  unfold reducer_argmax_f32_i32
  simp only [hn, hg, he, hl]
  rcases lt_trichotomy y x with h | h | h
  · have h' : x ≠ y := h.ne'
    cases hs : i.slt k <;> simp [h, h', IntOp.ori, IntOp.andi, Scalar.select]
  · subst h
    cases hs : i.slt k <;> simp [IntOp.ori, IntOp.andi, Scalar.select]
  · have h' : x ≠ y := h.ne
    cases hs : i.slt k <;> simp [h.not_gt, h', IntOp.ori, IntOp.andi, Scalar.select]

/-- The search over a list of (value, place): what it ends with stands in the list or is where it began, has no smaller
    value than any, and of those with its value no later place. -/
theorem search_list (L : List (EReal × BitVec 32)) (a : EReal × BitVec 32) :
    (L.foldl (reducer_argmax_f32_i32 (F := Ideal)) a = a ∨ L.foldl (reducer_argmax_f32_i32 (F := Ideal)) a ∈ L)
      ∧ ∀ b, (b = a ∨ b ∈ L) → b.1 ≤ (L.foldl (reducer_argmax_f32_i32 (F := Ideal)) a).1
        ∧ (b.1 = (L.foldl (reducer_argmax_f32_i32 (F := Ideal)) a).1 → (L.foldl (reducer_argmax_f32_i32 (F := Ideal)) a).2.toInt ≤ b.2.toInt) := by
  induction L generalizing a with
  | nil => exact ⟨Or.inl rfl, fun b hb => by obtain rfl : b = a := hb.resolve_right (by simp); exact ⟨le_rfl, fun _ => le_rfl⟩⟩
  | cons c L ih =>
    rw [List.foldl_cons]
    obtain ⟨h1, h2⟩ := ih (reducer_argmax_f32_i32 (F := Ideal) a c)
    set r := L.foldl (reducer_argmax_f32_i32 (F := Ideal)) (reducer_argmax_f32_i32 (F := Ideal) a c)
    have hs := search_step a c
    obtain ⟨h3, h4⟩ := h2 _ (Or.inl rfl)
    by_cases hc : c.1 < a.1 ∨ (a.1 = c.1 ∧ a.2.slt c.2 = true)
    · rw [if_pos hc] at hs
      rw [hs] at h1 h3 h4
      refine ⟨h1.imp id (List.mem_cons_of_mem _), fun b hb => ?_⟩
      rcases hb with rfl | hb
      · exact ⟨h3, h4⟩
      rcases List.mem_cons.mp hb with rfl | hb
      · rcases hc with hc | ⟨hc, hl⟩
        · exact ⟨hc.le.trans h3, fun e => absurd (e ▸ h3) (not_le.mpr hc)⟩
        · refine ⟨hc ▸ h3, fun e => ?_⟩
          have := h4 (hc.trans e)
          have hl' : a.2.toInt < b.2.toInt := by simpa [BitVec.slt] using hl
          omega
      · exact h2 b (Or.inr hb)
    · rw [if_neg hc] at hs
      rw [hs] at h1 h3 h4
      refine ⟨Or.inr (h1.elim (fun h => h ▸ List.mem_cons_self) (List.mem_cons_of_mem _)), fun b hb => ?_⟩
      have hca : a.1 ≤ c.1 := not_lt.mp fun h => hc (Or.inl h)
      rcases hb with rfl | hb
      · refine ⟨hca.trans h3, fun e => ?_⟩
        have e' : b.1 = c.1 := le_antisymm hca (e ▸ h3)
        have hl : ¬ b.2.slt c.2 = true := fun h => hc (Or.inr ⟨e', h⟩)
        have hl' : c.2.toInt ≤ b.2.toInt := by simpa [BitVec.slt] using hl
        have := h4 (e' ▸ e)
        omega
      rcases List.mem_cons.mp hb with rfl | hb
      · exact ⟨h3, h4⟩
      · exact h2 b (Or.inr hb)

/-- The search over the 64 places of a row ends at the first largest. -/
theorem search_row (l : Fin 64 → EReal) (L : List (EReal × BitVec 32))
    (hL : ∀ b, b ∈ L ↔ ∃ e : Fin 64, b = (l e, BitVec.ofNat 32 e.val)) :
    (L.foldl (reducer_argmax_f32_i32 (F := Ideal)) (⊥, 0#32)).2 = BitVec.ofNat 32 (pick l).val := by
  obtain ⟨h1, h2⟩ := search_list L (⊥, 0#32)
  set r := L.foldl (reducer_argmax_f32_i32 (F := Ideal)) (⊥, 0#32)
  have ht : ∀ e : Fin 64, (BitVec.ofNat 32 e.val).toInt = e.val := fun e => by
    rw [BitVec.toInt_eq_toNat_of_lt (by rw [BitVec.toNat_ofNat]; omega), BitVec.toNat_ofNat]
    omega
  have hm : ∀ e : Fin 64, l e ≤ r.1 ∧ (l e = r.1 → r.2.toInt ≤ e.val) := fun e => by
    have := h2 (l e, BitVec.ofNat 32 e.val) (Or.inr ((hL _).mpr ⟨e, rfl⟩))
    rwa [ht] at this
  obtain ⟨e, he⟩ : ∃ e : Fin 64, r = (l e, BitVec.ofNat 32 e.val) := by
    rcases h1 with h1 | h1
    · refine ⟨0, ?_⟩
      have : l 0 = ⊥ := le_bot_iff.mp (by have := (hm 0).1; rwa [h1] at this)
      rw [h1, this]; rfl
    · exact (hL _).mp h1
  rw [he] at hm ⊢
  have htop : l e = top l := le_antisymm (le_top l e) ((pick_top l) ▸ (hm (pick l)).1)
  rw [eq_pick l htop fun k hk => by
    have := (hm k).2 (by show l k = l e; rw [hk, htop])
    have h' : ((BitVec.ofNat 32 e.val).toInt) ≤ k.val := this
    rw [ht] at h'
    exact Fin.le_def.mpr (by omega)]

end Cert.ReferenceIdeal.Hand
-- ==== Proof.RefGateReads.lean ====
/- The reference's gates, expert rows and sort keys, read from the operations that compute them. -/
module

public import proofs.«01_k».proof.Proof.RefGates
public import proofs.«01_k».proof.Proof.Numbers

@[expose] public section
set_option maxRecDepth 16384
noncomputable section
namespace Cert.ReferenceIdeal.Hand

open Cert.ReferenceIdeal Cert.Route
open Idealize.ShloMosaic Idealize.ShloMosaic.TcCoe Idealize.ShloMosaic.Tactic

variable (V : Valuation τ sig (Elt Ideal))

/-- The gates. -/
theorem v11_value (t : Fin 4096) (e : Fin 64) :
    (StableHlo.after ops0 V main_v11 : Vec Ideal S4096x64 .f32) (ix2 t e) = gates (V main_arg0) (V main_arg1) t e := by
  unfold ops0
  after_reads_at
  rw [show Ideal.ofBits .f32 4286578688#32 = ⊥ from bot_f32]
  simp only [max_eq_right bot_le]
  rfl

/-- The sort key: the largest gate, negated. -/
theorem v27_value (t : Fin 4096) :
    (StableHlo.after ops3 V main_v27 : Vec Ideal S4096 .f32) (ix1 t) = -(top fun e => (V main_v11 : Vec Ideal S4096x64 .f32) (ix2 t e)) := by
  unfold ops3
  after_reads_at
  rw [show Ideal.ofBits .f32 4286578688#32 = ⊥ from bot_f32, f32_neg_one]
  exact (EReal.neg_mul _ _).trans (congrArg _ (one_mul _))

/-- The search's list over a row holds each of its places. -/
theorem mem_row {α β : Type} (x : S4096x64.Idx → α) (y : S4096x64.Idx → β) (h : S4096x64.ReducesTo [1] S4096) (t : Fin 4096) (b : α × β) :
    b ∈ Host.argReduceFiber x y h (ix1 t) ↔ ∃ e : Fin 64, b = (x (ix2 t e), y (ix2 t e)) := by
  have hd : ∀ i : S4096x64.Idx, h.drop i = ix1 t ↔ i 0 = t := fun i => by
    have h0 : (h.drop i 0 : ℕ) = i 0 := h.drop_apply_val_of_eq i 0 0
    constructor
    · intro e; rw [e] at h0; exact Fin.ext h0.symm
    · intro e
      funext b
      obtain rfl : b = 0 := Subsingleton.elim _ _
      exact Fin.ext (h0.trans (congrArg Fin.val e))
  unfold Host.argReduceFiber
  simp only [List.mem_map, List.mem_filter, List.mem_finRange, true_and, decide_eq_true_eq, hd]
  constructor
  · rintro ⟨n, hn, rfl⟩
    generalize S4096x64.rowMajor.symm n = i at hn ⊢
    refine ⟨i 1, ?_⟩
    have : i = ix2 t (i 1) := by rw [← hn]; exact (ix2_eta (n0 := 4096) (n1 := 64) _).symm
    exact congrArg (fun i => (x i, y i)) this
  · rintro ⟨e, rfl⟩
    exact ⟨S4096x64.rowMajor (ix2 t e), by rw [Equiv.symm_apply_apply]; rfl, by rw [Equiv.symm_apply_apply]⟩

theorem argmax_value (x : FVec Ideal S4096x64 .f32) (h : S4096x64.ReducesTo [1] S4096) (hu : 0 < S_.numel) (t : Fin 4096) :
    (Host.argReduce (reducer_argmax_f32_i32 (F := Ideal)) x (iotaInDim S4096x64 32 1) (constant (F := Ideal) S_ .f32 4286578688#32) (constantI S_ 32 0#32) h hu (ix1 t)).2
      = BitVec.ofNat 32 (pick fun e => x (ix2 t e)).val := by
  rw [Ideal.argReduce_eq_reduce2, Host.reduce2_eq_foldl_fiber]
  have hb : constant (F := Ideal) S_ .f32 4286578688#32 (Shape.Idx.first hu) = ⊥ := bot_f32
  rw [hb]
  exact search_row _ _ fun b => mem_row _ _ h t b

/-- The expert's one-hot row, in words. -/
theorem v13_value (t : Fin 4096) (e : Fin 64) :
    (StableHlo.after ops1 V main_v13 : Vec Ideal S4096x64 .i32) (ix2 t e)
      = if pick (fun e => (V main_v11 : Vec Ideal S4096x64 .f32) (ix2 t e)) = e then 1#32 else 0#32 := by
  unfold ops1
  after_reads_at
  rw [argmax_value]
  generalize pick (fun e => (V main_v11 : Vec Ideal S4096x64 .f32) (ix2 t e)) = p
  have h := Cert.KernelIdeal.Hand.ofNat_inj (a := p.val) (b := e.val) (by omega) (by omega)
  by_cases hp : p = e
  · subst hp; simp [IntOp.cmpi]
  · have hn : BitVec.ofNat 32 p.val ≠ BitVec.ofNat 32 e.val := fun h' => hp (Fin.ext (h.mp h'))
    have hb : (BitVec.ofNat 32 p.val == BitVec.ofNat 32 e.val) = false := beq_eq_false_iff_ne.mpr hn
    rw [if_neg hp]
    simp [IntOp.cmpi, hb]

end Cert.ReferenceIdeal.Hand
-- ==== Proof.GateNonzero.lean ====
/- A token's largest gate is never zero: it is positive where the largest logit is a real number, and the undefined
   quotient's value where that logit is infinite. -/
module

public import proofs.«01_k».proof.Proof.Spec

@[expose] public section
noncomputable section
namespace Cert.Route

open Idealize.ShloMosaic

theorem exp_nonneg (x : EReal) : 0 ≤ Ideal.exp x := by
  induction x with
  | bot => exact le_rfl
  | top => exact _root_.le_top
  | coe r => exact EReal.coe_nonneg.mpr (Real.exp_pos r).le

/-- No difference to a largest value is real when that value is not. -/
theorem sub_top_bot (l : Fin 64 → EReal) (h : top l = ⊤ ∨ top l = ⊥) (e : Fin 64) : l e - top l = ⊥ := by
  rcases h with h | h
  · rw [h, sub_eq_add_neg, EReal.neg_top, EReal.add_bot]
  · have : l e = ⊥ := le_bot_iff.mp (h ▸ le_top l e)
    rw [this, sub_eq_add_neg, EReal.bot_add]

theorem exp_sub_ne_top (l : Fin 64 → EReal) (r : ℝ) (h : top l = (r : EReal)) (e : Fin 64) : Ideal.exp (l e - top l) ≠ ⊤ := by
  have hle := le_top l e
  rw [h] at hle ⊢
  generalize l e = x at hle ⊢
  induction x with
  | bot => rw [sub_eq_add_neg, EReal.bot_add]; simp
  | top => exact absurd (_root_.top_le_iff.mp hle) (EReal.coe_ne_top r)
  | coe s => rw [← EReal.coe_sub, Ideal.exp_coe]; exact EReal.coe_ne_top _

theorem top_soft_ne_zero (l : Fin 64 → EReal) : top (soft l) ≠ 0 := by
  have hc : (top l = ⊤ ∨ top l = ⊥) ∨ ∃ r : ℝ, top l = (r : EReal) := by
    generalize top l = x
    induction x with
    | bot => exact Or.inl (Or.inr rfl)
    | top => exact Or.inl (Or.inl rfl)
    | coe r => exact Or.inr ⟨r, rfl⟩
  rcases hc with h | ⟨r, h⟩
  · have hs : soft l = fun _ => ⊥ := by
      funext e
      unfold soft
      simp only [sub_top_bot l h, Ideal.exp_bot, Finset.sum_const_zero]
      simp [Ideal.div]
    rw [hs, top_eq_sup]
    simp
  · have h1 : Ideal.exp (l (pick l) - top l) = 1 := by
      rw [pick_top l, h, ← EReal.coe_sub, sub_self, Ideal.exp_coe, Real.exp_zero, EReal.coe_one]
    have hge : 1 ≤ ∑ k, Ideal.exp (l k - top l) :=
      h1 ▸ Finset.single_le_sum (f := fun k => Ideal.exp (l k - top l)) (fun k _ => exp_nonneg _) (Finset.mem_univ (pick l))
    have hne : ∑ k, Ideal.exp (l k - top l) ≠ ⊤ :=
      Finset.sum_induction _ (· ≠ (⊤ : EReal)) (fun _ _ => EReal.add_ne_top) (by simp) fun k _ => exp_sub_ne_top l r h k
    have hsoft : 0 < soft l (pick l) := by
      unfold soft
      rw [h1]
      generalize ∑ k, Ideal.exp (l k - top l) = x at hge hne
      induction x with
      | bot => exact absurd (le_bot_iff.mp hge) (by decide)
      | top => exact absurd rfl hne
      | coe s =>
        have hs : (1 : ℝ) ≤ s := by exact_mod_cast hge
        rw [Ideal.div_coe (by positivity), one_mul]
        exact EReal.coe_pos.mpr (by positivity)
    exact (lt_of_lt_of_le hsoft (le_top (soft l) (pick l))).ne'

end Cert.Route
-- ==== Proof.RefValue.lean ====
/- The reference's three results, from its arguments. -/
module

public import proofs.«01_k».proof.Proof.RefStages
public import proofs.«01_k».proof.Proof.RefOrder
public import proofs.«01_k».proof.Proof.RefGateReads
public import proofs.«01_k».proof.Proof.GateNonzero
public import Idealize.ShloMosaic.Lib.Pipeline.Frame

@[expose] public section
set_option maxRecDepth 16384
noncomputable section
namespace Cert.ReferenceIdeal.Hand

open Cert.ReferenceIdeal Cert.Route
open Idealize.ShloMosaic Idealize.ShloMosaic.TcCoe Idealize.ShloMosaic.Tactic

section
variable (V : Valuation τ sig (Elt Ideal)) (r : Ref sig .tc)

/-! What each group leaves alone: every buffer it does not write. -/

theorem keep1 (h : r ∉ [main_call0.v0.ref, main_call0.cst.ref, main_call0.c.ref, main_call0.v1_0.ref, main_call0.v1_1.ref, main_call1.v0.ref, main_call1.v1.ref, main_call1.v2.ref, main_call1.v3.ref, main_call1.v4.ref, main_call1.v5.ref]) :
    StableHlo.after (ops1 (F := Ideal)) V (Proc.devRef .tc r) = V (Proc.devRef .tc r) :=
  StableHlo.after_of_writes_sub _ V (StableHlo.forall_writes_sub_of_map rfl) h

theorem keep2 (h : r ∉ [main_cst_2, main_v14, main_cst_3, main_v15, main_v16, main_v17, main_cst_4, main_v18, main_cst_5, main_v19, main_v20, main_v21, main_cst_6, main_v22, main_cst_7, main_v23, main_cst_8, main_v24]) :
    StableHlo.after (ops2 (F := Ideal)) V (Proc.devRef .tc r) = V (Proc.devRef .tc r) :=
  StableHlo.after_of_writes_sub _ V (StableHlo.forall_writes_sub_of_map rfl) h

theorem keep3 (h : r ∉ [main_cst_9, main_v25, main_cst_10, main_v26, main_v27]) :
    StableHlo.after (ops3 (F := Ideal)) V (Proc.devRef .tc r) = V (Proc.devRef .tc r) :=
  StableHlo.after_of_writes_sub _ V (StableHlo.forall_writes_sub_of_map rfl) h

theorem keep4a (h : r ∉ [main_call2.v0.ref, main_call2.v1_0.ref, main_call2.v1_1.ref]) :
    StableHlo.after (ops4a (F := Ideal)) V (Proc.devRef .tc r) = V (Proc.devRef .tc r) :=
  StableHlo.after_of_writes_sub _ V (StableHlo.forall_writes_sub_of_map rfl) h

theorem keep4b (h : r ∉ [main_call3.v0.ref, main_call3.v1.ref]) :
    StableHlo.after (ops4b (F := Ideal)) V (Proc.devRef .tc r) = V (Proc.devRef .tc r) :=
  StableHlo.after_of_writes_sub _ V (StableHlo.forall_writes_sub_of_map rfl) h

theorem keep4c (h : r ∉ [main_call3.v2.ref]) :
    StableHlo.after (ops4c (F := Ideal)) V (Proc.devRef .tc r) = V (Proc.devRef .tc r) :=
  StableHlo.after_of_writes_sub _ V (StableHlo.forall_writes_sub_of_map rfl) h

theorem keep4d (h : r ∉ [main_call4.v0.ref, main_call4.v1_0.ref, main_call4.v1_1.ref]) :
    StableHlo.after (ops4d (F := Ideal)) V (Proc.devRef .tc r) = V (Proc.devRef .tc r) :=
  StableHlo.after_of_writes_sub _ V (StableHlo.forall_writes_sub_of_map rfl) h

theorem keep5 (h : r ∉ [main_c, main_v31, main_v32, main_c_11, main_v33, main_v34, main_v35, main_v36, main_v37, main_call5.call0.c.ref, main_call5.call0.v0.ref, main_call5.call0.v1.ref]) :
    StableHlo.after (ops5 (F := Ideal)) V (Proc.devRef .tc r) = V (Proc.devRef .tc r) :=
  StableHlo.after_of_writes_sub _ V (StableHlo.forall_writes_sub_of_map rfl) h

theorem keep6 (h : r ∉ [main_c_12, main_v39, main_v40, main_v41, main_c_13, main_v42, main_v43, main_c_14, main_v44, main_v45, main_v46, main_v47, main_v48]) :
    StableHlo.after (ops6 (F := Ideal)) V (Proc.devRef .tc r) = V (Proc.devRef .tc r) :=
  StableHlo.after_of_writes_sub _ V (StableHlo.forall_writes_sub_of_map rfl) h

theorem keep7 (h : r ∉ [main_c_15, main_v49, main_v50, main_v51, main_v52, main_v53, main_c_16, main_v54, main_v55, main_v56, main_call6.v0.ref, main_call6.v1.ref, main_call6.v2.ref, main_call6.v3.ref, main_call6.v4.ref, main_call6.v5.ref]) :
    StableHlo.after (ops7 (F := Ideal)) V (Proc.devRef .tc r) = V (Proc.devRef .tc r) :=
  StableHlo.after_of_writes_sub _ V (StableHlo.forall_writes_sub_of_map rfl) h

theorem keep8 (h : r ∉ [main_v58, main_v59, main_v60, main_v61, main_v62, main_cst_17, main_v63, main_v64]) :
    StableHlo.after (ops8 (F := Ideal)) V (Proc.devRef .tc r) = V (Proc.devRef .tc r) :=
  StableHlo.after_of_writes_sub _ V (StableHlo.forall_writes_sub_of_map rfl) h

end

variable (V : Valuation τ sig (Elt Ideal))

/-! The contents after each group. -/

def U0 : Valuation τ sig (Elt Ideal) := StableHlo.after ops0 V
def U1 : Valuation τ sig (Elt Ideal) := StableHlo.after ops1 (U0 V)
def U2 : Valuation τ sig (Elt Ideal) := StableHlo.after ops2 (U1 V)
def U3 : Valuation τ sig (Elt Ideal) := StableHlo.after ops3 (U2 V)
def U4a : Valuation τ sig (Elt Ideal) := StableHlo.after ops4a (U3 V)
def U4c : Valuation τ sig (Elt Ideal) := StableHlo.after ops4c (StableHlo.after ops4b (U4a V))
def U4d : Valuation τ sig (Elt Ideal) := StableHlo.after ops4d (U4c V)
def U5 : Valuation τ sig (Elt Ideal) := StableHlo.after ops5 (U4d V)
def U6 : Valuation τ sig (Elt Ideal) := StableHlo.after ops6 (U5 V)
def U7 : Valuation τ sig (Elt Ideal) := StableHlo.after ops7 (U6 V)
def U8 : Valuation τ sig (Elt Ideal) := StableHlo.after ops8 (U7 V)

theorem after_ops : StableHlo.after ops V = U8 V := by
  unfold ops
  rw [ops4_split]
  simp only [StableHlo.after_append]
  rfl

/-! Values carried across groups. -/

theorem kept_gates : U6 V (Proc.devRef .tc main_v11) = U2 V (Proc.devRef .tc main_v11) :=
  ((keep6 (U5 V) main_v11 (by decide)).trans ((keep5 (U4d V) main_v11 (by decide)).trans ((keep4d (U4c V) main_v11 (by decide)).trans ((keep4c (StableHlo.after ops4b (U4a V)) main_v11 (by decide)).trans ((keep4b (U4a V) main_v11 (by decide)).trans ((keep4a (U3 V) main_v11 (by decide)).trans (keep3 (U2 V) main_v11 (by decide))))))))

theorem kept_row4 : U4d V (Proc.devRef .tc main_v13) = U1 V (Proc.devRef .tc main_v13) :=
  ((keep4d (U4c V) main_v13 (by decide)).trans ((keep4c (StableHlo.after ops4b (U4a V)) main_v13 (by decide)).trans ((keep4b (U4a V) main_v13 (by decide)).trans ((keep4a (U3 V) main_v13 (by decide)).trans ((keep3 (U2 V) main_v13 (by decide)).trans (keep2 (U1 V) main_v13 (by decide)))))))

theorem kept_row6 : U6 V (Proc.devRef .tc main_v13) = U4d V (Proc.devRef .tc main_v13) :=
  ((keep6 (U5 V) main_v13 (by decide)).trans (keep5 (U4d V) main_v13 (by decide)))

theorem kept_loss : U8 V (Proc.devRef .tc main_v24) = U2 V (Proc.devRef .tc main_v24) :=
  ((keep8 (U7 V) main_v24 (by decide)).trans ((keep7 (U6 V) main_v24 (by decide)).trans ((keep6 (U5 V) main_v24 (by decide)).trans ((keep5 (U4d V) main_v24 (by decide)).trans ((keep4d (U4c V) main_v24 (by decide)).trans ((keep4c (StableHlo.after ops4b (U4a V)) main_v24 (by decide)).trans ((keep4b (U4a V) main_v24 (by decide)).trans ((keep4a (U3 V) main_v24 (by decide)).trans (keep3 (U2 V) main_v24 (by decide))))))))))

/-- The tokens' gates, from the arguments. -/
def G (u : Fin 4096) : Fin 64 → EReal := gates (V main_arg0) (V main_arg1) u

/-- The tokens' largest gates, experts and seats. -/
def gm (u : Fin 4096) : EReal := top (G V u)
def ex (u : Fin 4096) : Fin 64 := pick (G V u)
def st (u : Fin 4096) : ℕ := seat (ex V) (place (gm V)) u

theorem u0_gates (t : Fin 4096) (e : Fin 64) : (U0 V main_v11 : Vec Ideal S4096x64 .f32) (ix2 t e) = G V t e := v11_value V t e

theorem u1_gates (t : Fin 4096) (e : Fin 64) : (U1 V main_v11 : Vec Ideal S4096x64 .f32) (ix2 t e) = G V t e :=
  (congrFun (keep1 (U0 V) main_v11 (by decide)) (ix2 t e)).trans (u0_gates V t e)

theorem u2_gates (t : Fin 4096) (e : Fin 64) : (U2 V main_v11 : Vec Ideal S4096x64 .f32) (ix2 t e) = G V t e :=
  (congrFun (keep2 (U1 V) main_v11 (by decide)) (ix2 t e)).trans (u1_gates V t e)

/-- Nothing after the second group and before the tables writes the gates. -/
theorem u6_gates (t : Fin 4096) (e : Fin 64) : (U6 V main_v11 : Vec Ideal S4096x64 .f32) (ix2 t e) = G V t e :=
  (congrFun (kept_gates V) (ix2 t e)).trans (u2_gates V t e)

theorem u1_row (t : Fin 4096) (e : Fin 64) : (U1 V main_v13 : Vec Ideal S4096x64 .i32) (ix2 t e) = if ex V t = e then 1#32 else 0#32 := by
  have h : (fun e => (U0 V main_v11 : Vec Ideal S4096x64 .f32) (ix2 t e)) = G V t := funext fun e => u0_gates V t e
  exact (v13_value (U0 V) t e).trans (by rw [h]; rfl)

theorem u4_row (t : Fin 4096) (e : Fin 64) : (U4d V main_v13 : Vec Ideal S4096x64 .i32) (ix2 t e) = if ex V t = e then 1#32 else 0#32 :=
  (congrFun (kept_row4 V) (ix2 t e)).trans (u1_row V t e)

theorem u6_row (t : Fin 4096) (e : Fin 64) : (U6 V main_v13 : Vec Ideal S4096x64 .i32) (ix2 t e) = if ex V t = e then 1#32 else 0#32 :=
  (congrFun (kept_row6 V) (ix2 t e)).trans (u4_row V t e)

theorem u3_key (t : Fin 4096) : (U3 V main_v27 : Vec Ideal S4096 .f32) (ix1 t) = -(gm V t) := by
  have h : (fun e => (U2 V main_v11 : Vec Ideal S4096x64 .f32) (ix2 t e)) = G V t := funext fun e => u2_gates V t e
  exact (v27_value (U2 V) t).trans (by rw [h]; rfl)

theorem u4_tokens (q : Fin 4096) : (U4c V main_v29 : Vec Ideal S4096 .i32) (ix1 q) = BitVec.ofNat 32 ((placePerm (gm V)).symm q).val :=
  v29_value (fun q => v28_value (u3_key V) q) q

theorem u4d_tokens (q : Fin 4096) : (U4d V main_v29 : Vec Ideal S4096 .i32) (ix1 q) = BitVec.ofNat 32 ((placePerm (gm V)).symm q).val :=
  (congrFun (keep4d (U4c V) main_v29 (by decide)) (ix1 q)).trans (u4_tokens V q)

theorem u5_places (t : Fin 4096) : (U5 V main_v30 : Vec Ideal S4096 .i32) (ix1 t) = BitVec.ofNat 32 (place (gm V) t) :=
  (congrFun (keep5 (U4d V) main_v30 (by decide)) (ix1 t)).trans (v30_value (u4_tokens V) t)

theorem u6_seats (t : Fin 4096) (e : Fin 64) :
    (U6 V main_v48 : Vec Ideal S4096x64 .i32) (ix2 t e) = if ex V t = e then BitVec.ofNat 32 (st V t) else 0#32 :=
  v48_value (U5 V) (gm V) (ex V) (v37_value (U4d V) (gm V) (ex V) (u4_row V) (u4d_tokens V))
    (v38_value (U4d V) (gm V) (ex V) (u4_row V) (u4d_tokens V)) (u5_places V) t e

theorem st_lt (t : Fin 4096) : st V t < 4096 := seat_lt _ _ _

/-- The product of the two tables is the token's largest gate where it has that expert and seat, and zero elsewhere. -/
theorem tables (t : Fin 4096) (e k : Fin 64) :
    HMul.hMul (α := EReal) ((U7 V main_v56 : Vec Ideal S4096x64 .f32) (ix2 t e)) ((U7 V main_v57 : Vec Ideal S4096x64 .f32) (ix2 t k))
      = if ex V t = e ∧ st V t = k.val then gm V t else 0 := by
  have h1 : (U7 V main_v56 : Vec Ideal S4096x64 .f32) (ix2 t e) = if ex V t = e ∧ st V t < 64 then G V t e else 0 :=
    v56_value (U6 V) (ex V) (G V) (st V) (st_lt V) (u6_gates V) (u6_row V) (u6_seats V) t e
  have h2 : (U7 V main_v57 : Vec Ideal S4096x64 .f32) (ix2 t k) = if (if st V t < 64 then st V t else 0) = k.val then (1 : EReal) else (0 : EReal) :=
    v57_value (U6 V) (ex V) (st V) (st_lt V) (u6_row V) (u6_seats V) t k
  refine (congrArg₂ (HMul.hMul (α := EReal)) h1 h2).trans ?_
  have hk := k.isLt
  by_cases h : ex V t = e
  · by_cases hs : st V t < 64
    · rw [if_pos ⟨h, hs⟩, if_pos hs]
      by_cases hc : st V t = k.val
      · rw [if_pos hc, if_pos ⟨h, hc⟩, mul_one, ← h]
        exact pick_top (G V t)
      · rw [if_neg hc, if_neg fun h' => hc h'.2, mul_zero]
    · rw [if_neg (show ¬(ex V t = e ∧ st V t < 64) from fun h' => hs h'.2), zero_mul,
        if_neg (show ¬(ex V t = e ∧ st V t = k.val) from fun h' => hs (h'.2 ▸ hk))]
  · rw [if_neg (show ¬(ex V t = e ∧ st V t < 64) from fun h' => h h'.1), zero_mul,
      if_neg (show ¬(ex V t = e ∧ st V t = k.val) from fun h' => h h'.1)]

/-- Result 1. -/
theorem ref_loss : (U8 V main_v24 : Vec Ideal S_ .f32) ix0
    = (∑ e : Fin 64, (∑ t : Fin 4096, G V t e) * (∑ t : Fin 4096, if ex V t = e then (1 : EReal) else 0)) * Ideal.ofBits .f32 857986826#32 :=
  (congrFun (kept_loss V) ix0).trans
    (v24_value (U1 V) (G V) (ex V) (u1_gates V) (u1_row V))

/-- Result 2. -/
theorem ref_combine (t : Fin 4096) (e k : Fin 64) :
    (U8 V main_v62 : Vec Ideal S4096x64x64 .f32) (ix3 t e k) = if ex V t = e ∧ st V t = k.val then gm V t else 0 :=
  (v62_value (U7 V) t e k).trans (tables V t e k)

/-- Result 3. -/
theorem ref_dispatch (t : Fin 4096) (e k : Fin 64) :
    (U8 V main_v64 : Vec Ideal S4096x64x64 .i1) (ix3 t e k) = if ex V t = e ∧ st V t = k.val then 1#1 else 0#1 := by
  refine (v64_value (U7 V) t e k).trans ?_
  rw [tables V t e k]
  have hn : gm V t ≠ 0 := top_soft_ne_zero _
  by_cases h : ex V t = e ∧ st V t = k.val
  · rw [if_pos h, if_pos h, decide_eq_true hn]; rfl
  · rw [if_neg h, if_neg h, decide_eq_false (fun h' => h' rfl)]; rfl

end Cert.ReferenceIdeal.Hand
-- ==== Proof.Equation.lean ====
/- From equal arguments the kernel's three results and the reference's are equal. -/
module

public import proofs.«01_k».proof.Proof.KernelValue
public import proofs.«01_k».proof.Proof.RefValue

@[expose] public section
set_option maxRecDepth 16384
noncomputable section
namespace Cert.Route

open Idealize.ShloMosaic Idealize.ShloMosaic.TcCoe Idealize.ShloMosaic.Tactic

variable (m : (ℓ : Loc KernelIdeal.nD KernelIdeal.τ KernelIdeal.sig) → Buf (Elt Ideal) ℓ) (ρ : Dev KernelIdeal.nD → PrngReg) (c : Dev KernelIdeal.nD)
variable (V : Valuation ReferenceIdeal.τ ReferenceIdeal.sig (Elt Ideal))

/-- The two programs' arguments agree. -/
structure Agree : Prop where
  x : (V (Proc.devRef .tc ReferenceIdeal.main_arg0) : Vec Ideal KernelIdeal.S4096x2048 .f32) = m ((c.tc : Thread KernelIdeal.nD KernelIdeal.τ).loc KernelIdeal.main_arg0)
  w : (V (Proc.devRef .tc ReferenceIdeal.main_arg1) : Vec Ideal KernelIdeal.S2048x64 .f32) = m ((c.tc : Thread KernelIdeal.nD KernelIdeal.τ).loc KernelIdeal.main_arg1)

variable {m c V} (h : Agree m c V)
include h

theorem Agree.gate_eq : ReferenceIdeal.Hand.G V = KernelIdeal.Hand.G m c :=
  funext fun u => congrArg₂ (fun x w => gates x w u) h.x h.w

theorem Agree.tops : ReferenceIdeal.Hand.gm V = KernelIdeal.Hand.gm m c :=
  funext fun u => congrArg (fun g : Fin 4096 → Fin 64 → EReal => top (g u)) h.gate_eq

theorem Agree.experts : ReferenceIdeal.Hand.ex V = KernelIdeal.Hand.ex m c :=
  funext fun u => congrArg (fun g : Fin 4096 → Fin 64 → EReal => pick (g u)) h.gate_eq

theorem Agree.seats : ReferenceIdeal.Hand.st V = KernelIdeal.Hand.st m c :=
  funext fun u => congrArg₂ (fun a v => seat a (place v) u) h.experts h.tops

/-- Result 1: the loss. -/
theorem Agree.loss : (ReferenceIdeal.Hand.U8 V (Proc.devRef .tc ReferenceIdeal.main_v24) : Vec Ideal KernelIdeal.S_ .f32)
    = (KernelIdeal.Hand.W8 m ρ c (Proc.devRef .tc KernelIdeal.main_v14) : Vec Ideal KernelIdeal.S_ .f32) := by
  funext j
  obtain rfl : j = ix0 := funext fun a => a.elim0
  refine (ReferenceIdeal.Hand.ref_loss V).trans (Eq.trans ?_ (KernelIdeal.Hand.loss_value m ρ c).symm)
  refine congrArg (fun s : EReal => s * Ideal.ofBits .f32 857986826#32) ?_
  refine (sum_lanes _ _ (fun e => ?_) fun e he => ?_).symm
  · rw [h.gate_eq, h.experts]
    unfold KernelIdeal.Hand.row0 KernelIdeal.Hand.row1
    rw [dif_pos e.isLt, if_pos e.isLt]
    refine congrArg (fun s : EReal => (∑ u : Fin 4096, KernelIdeal.Hand.G m c u e) * s) (Finset.sum_congr rfl fun u _ => ?_)
    exact if_congr ⟨fun h => Fin.ext h.symm, fun h => h ▸ rfl⟩ rfl rfl
  · unfold KernelIdeal.Hand.row0
    rw [dif_neg (by omega), zero_mul]

/-- Result 2: the combine weights. -/
theorem Agree.combine : (ReferenceIdeal.Hand.U8 V (Proc.devRef .tc ReferenceIdeal.main_v62) : Vec Ideal KernelIdeal.S4096x64x64 .f32)
    = (KernelIdeal.Hand.W8 m ρ c (Proc.devRef .tc KernelIdeal.main_v15) : Vec Ideal KernelIdeal.S4096x64x64 .f32) := by
  funext j
  obtain ⟨t, e, k, rfl⟩ : ∃ (t : Fin 4096) (e k : Fin 64), j = ix3 t e k := ⟨j 0, j 1, j 2, (ix3_eta (n0 := 4096) (n1 := 64) (n2 := 64) j).symm⟩
  refine (ReferenceIdeal.Hand.ref_combine V t e k).trans (Eq.trans ?_ (KernelIdeal.Hand.combine_value m ρ c t e k).symm)
  rw [h.experts, h.seats, h.tops]
  rfl

/-- Result 3: the dispatch mask. -/
theorem Agree.dispatch : (ReferenceIdeal.Hand.U8 V (Proc.devRef .tc ReferenceIdeal.main_v64) : Vec Ideal KernelIdeal.S4096x64x64 .i1)
    = (KernelIdeal.Hand.W8 m ρ c (Proc.devRef .tc KernelIdeal.main_v16) : Vec Ideal KernelIdeal.S4096x64x64 .i1) := by
  funext j
  obtain ⟨t, e, k, rfl⟩ : ∃ (t : Fin 4096) (e k : Fin 64), j = ix3 t e k := ⟨j 0, j 1, j 2, (ix3_eta (n0 := 4096) (n1 := 64) (n2 := 64) j).symm⟩
  refine (ReferenceIdeal.Hand.ref_dispatch V t e k).trans (Eq.trans ?_ (KernelIdeal.Hand.dispatch_value m ρ c t e k).symm)
  rw [h.experts, h.seats]

end Cert.Route
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsFrame
public import proofs.«01_k».proof.Proof.Equation

@[expose] public section

noncomputable section

namespace Cert.Proof

open Idealize.ShloMosaic Idealize.ShloMosaic.TcCoe

/-- The value claim: from equal arguments the kernel and the reference end with the same loss, combine weights and
    dispatch mask, and both leave their arguments unchanged. The shared results are what the kernel's run ends holding. -/
theorem algebraic [Cert.KernelIdeal.Facts] [Cert.ReferenceIdeal.Facts] : Cert.algebraic_KernelIdeal_ReferenceIdeal := by
  intro m g m' g' _ hagree
  have same (c : Dev Cert.KernelIdeal.nD) : Cert.Route.Agree m c (StableHlo.launchContents m' c) :=
    ⟨(hagree c).1, (hagree c).2⟩
  refine ⟨fun c => Cert.KernelIdeal.Hand.W8 m g c (Proc.devRef .tc Cert.KernelIdeal.main_v14),
    fun c => Cert.KernelIdeal.Hand.W8 m g c (Proc.devRef .tc Cert.KernelIdeal.main_v15),
    fun c => Cert.KernelIdeal.Hand.W8 m g c (Proc.devRef .tc Cert.KernelIdeal.main_v16), ?_, ?_⟩
  · exact θ_run_mono (Cert.KernelIdeal.Hand.run m g) fun r h c =>
      ⟨h.1 c _ (Cert.KernelIdeal.Hand.mem_uc Cert.KernelIdeal.main_v14 (by decide)),
        h.1 c _ (Cert.KernelIdeal.Hand.mem_uc Cert.KernelIdeal.main_v15 (by decide)),
        h.1 c _ (Cert.KernelIdeal.Hand.mem_uc Cert.KernelIdeal.main_v16 (by decide)),
        (h.1 c _ (Cert.KernelIdeal.Hand.mem_uc Cert.KernelIdeal.main_arg0 (by decide))).trans
          (Cert.KernelIdeal.Hand.W8_main_arg0 m g c),
        (h.1 c _ (Cert.KernelIdeal.Hand.mem_uc Cert.KernelIdeal.main_arg1 (by decide))).trans
          (Cert.KernelIdeal.Hand.W8_main_arg1 m g c)⟩
  · exact θ_run_mono (Cert.ReferenceIdeal.Hand.run_ref m' g') fun r h c =>
      ⟨((h c Cert.ReferenceIdeal.main_v24).trans
          (congrFun (Cert.ReferenceIdeal.Hand.after_ops (StableHlo.launchContents m' c)) _)).trans ((same c).loss g),
        ((h c Cert.ReferenceIdeal.main_v62).trans
          (congrFun (Cert.ReferenceIdeal.Hand.after_ops (StableHlo.launchContents m' c)) _)).trans ((same c).combine g),
        ((h c Cert.ReferenceIdeal.main_v64).trans
          (congrFun (Cert.ReferenceIdeal.Hand.after_ops (StableHlo.launchContents m' c)) _)).trans ((same c).dispatch g),
        (h c Cert.ReferenceIdeal.main_arg0).trans (Cert.ReferenceIdeal.Hand.keeps _ (by decide)),
        (h c Cert.ReferenceIdeal.main_arg1).trans (Cert.ReferenceIdeal.Hand.keeps _ (by decide))⟩

/-- Every claim of the certificate, with the side conditions the programs state. -/

theorem claim : Cert.Claim :=
  ⟨Cert.Kernel.Gen.facts, Cert.KernelIdeal.Gen.facts, Cert.ReferenceIdeal.Gen.facts,
    Cert.Kernel.Hand.frame,
    (fun m g _ => Cert.KernelIdeal.Hand.frame m g),
    Cert.ReferenceIdeal.Hand.frame,
    trivial,
    Cert.Proof.algebraic⟩

end Cert.Proof

end
